-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4096x20 : Shape := ⟨2, ![4096, 20]⟩
abbrev S16384x32 : Shape := ⟨2, ![16384, 32]⟩
abbrev S_ : Shape := ⟨0, ![]⟩

class Facts : Prop where
  bcast_S_S16384x32 : S_.BroadcastsInDim S16384x32 (![] : Fin 0 → Fin S16384x32.rank)
  reducesTo_S16384x32_S_d0_1 : S16384x32.ReducesTo [0, 1] S_
  h_S_ : 0 < S_.numel

variable [Facts]

def fn {F : FTy → Type} [FloatOps F] (main_arg0 : FVec F S4096x20 .f32) (main_arg1 : IVec S16384x32 32) (main_arg2 : IVec S16384x32 32) : IVec S_ 1 :=
  let main_c : IVec S_ 32 := constantI S_ 32 0#32
  let main_v0 : IVec S16384x32 32 := broadcastInDim S16384x32 ![] bcast_S_S16384x32 main_c
  let main_v1 : IVec S16384x32 1 := cmpi .sge main_arg1 main_v0
  let main_c_0 : IVec S_ 1 := constantI S_ 1 1#1
  let main_v2 : IVec S_ 1 := (fun x v => Host.reduce IntOp.andi x v reducesTo_S16384x32_S_d0_1 h_S_) main_v1 main_c_0
  let main_c_1 : IVec S_ 32 := constantI S_ 32 4096#32
  let main_v3 : IVec S16384x32 32 := broadcastInDim S16384x32 ![] bcast_S_S16384x32 main_c_1
  let main_v4 : IVec S16384x32 1 := cmpi .slt main_arg1 main_v3
  let main_c_2 : IVec S_ 1 := constantI S_ 1 1#1
  let main_v5 : IVec S_ 1 := (fun x v => Host.reduce IntOp.andi x v reducesTo_S16384x32_S_d0_1 h_S_) main_v4 main_c_2
  let main_v6 : IVec S_ 1 := andi main_v2 main_v5
  let main_c_3 : IVec S_ 32 := constantI S_ 32 0#32
  let main_v7 : IVec S16384x32 32 := broadcastInDim S16384x32 ![] bcast_S_S16384x32 main_c_3
  let main_v8 : IVec S16384x32 1 := cmpi .sge main_arg2 main_v7
  let main_c_4 : IVec S_ 1 := constantI S_ 1 1#1
  let main_v9 : IVec S_ 1 := (fun x v => Host.reduce IntOp.andi x v reducesTo_S16384x32_S_d0_1 h_S_) main_v8 main_c_4
  let main_v10 : IVec S_ 1 := andi main_v6 main_v9
  let main_c_5 : IVec S_ 32 := constantI S_ 32 20#32
  let main_v11 : IVec S16384x32 32 := broadcastInDim S16384x32 ![] bcast_S_S16384x32 main_c_5
  let main_v12 : IVec S16384x32 1 := cmpi .slt main_arg2 main_v11
  let main_c_6 : IVec S_ 1 := constantI S_ 1 1#1
  let main_v13 : IVec S_ 1 := (fun x v => Host.reduce IntOp.andi x v reducesTo_S16384x32_S_d0_1 h_S_) main_v12 main_c_6
  let main_v14 : IVec S_ 1 := andi main_v10 main_v13
  main_v14
-- ==== Kernel.lean ====
abbrev S4096x20 : Shape := ⟨2, ![4096, 20]⟩
abbrev S16384x32 : Shape := ⟨2, ![16384, 32]⟩
abbrev S20x4096 : Shape := ⟨2, ![20, 4096]⟩
abbrev S81920 : Shape := ⟨1, ![81920]⟩
abbrev S4096 : Shape := ⟨1, ![4096]⟩
abbrev S1x4096 : Shape := ⟨2, ![1, 4096]⟩
abbrev S32x16384 : Shape := ⟨2, ![32, 16384]⟩
abbrev S16384 : Shape := ⟨1, ![16384]⟩
abbrev S32x512 : Shape := ⟨2, ![32, 512]⟩
abbrev S512 : Shape := ⟨1, ![512]⟩
abbrev S_ : Shape := ⟨0, ![]⟩
abbrev S5120 : Shape := ⟨1, ![5120]⟩
abbrev S16 : Shape := ⟨1, ![16]⟩
abbrev S1x16 : Shape := ⟨2, ![1, 16]⟩

abbrev nBuf : Table → Nat
  | .hbm => 8
  | .local .tc .vmem => 2
  | .shared => 1
  | .local .scVector .vmem => 4
  | _ => 0

abbrev bufTy : (tb : Table) → Fin (nBuf tb) → BufTy
  | .hbm, ⟨0, _⟩ => ⟨S4096x20, .f32⟩
  | .hbm, ⟨1, _⟩ => ⟨S16384x32, .i32⟩
  | .hbm, ⟨2, _⟩ => ⟨S16384x32, .i32⟩
  | .hbm, ⟨3, _⟩ => ⟨S20x4096, .f32⟩
  | .hbm, ⟨4, _⟩ => ⟨S81920, .f32⟩
  | .hbm, ⟨5, _⟩ => ⟨S32x16384, .i32⟩
  | .hbm, ⟨6, _⟩ => ⟨S32x16384, .i32⟩
  | .hbm, ⟨7, _⟩ => ⟨S16384, .f32⟩
  | .local .tc .vmem, ⟨0, _⟩ => ⟨S20x4096, .f32⟩
  | .local .tc .vmem, ⟨1, _⟩ => ⟨S81920, .f32⟩
  | .shared, ⟨0, _⟩ => ⟨S81920, .f32⟩
  | .local .scVector .vmem, ⟨0, _⟩ => ⟨S81920, .f32⟩
  | .local .scVector .vmem, ⟨1, _⟩ => ⟨S32x512, .i32⟩
  | .local .scVector .vmem, ⟨2, _⟩ => ⟨S32x512, .i32⟩
  | .local .scVector .vmem, ⟨3, _⟩ => ⟨S512, .f32⟩
  | _, _ => ⟨S4096x20, .f32⟩

abbrev bufScoped : (cs : CoreSpace) → Fin (nBuf (.local .tc cs)) → Bool
  | .vmem, ⟨0, _⟩ => true
  | .vmem, ⟨1, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 7 → Bool
  | ⟨0, _⟩ => true
  | ⟨1, _⟩ => true
  | ⟨2, _⟩ => false
  | ⟨3, _⟩ => false
  | ⟨4, _⟩ => false
  | ⟨5, _⟩ => false
  | ⟨6, _⟩ => false
  | _ => false

abbrev sig : RefSig :=
  ofTables nBuf rfl bufTy 5 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v1_scv : Ref sig .scVector := ⟨.hbm, 4, rfl⟩
abbrev main_v2_scv : Ref sig .scVector := ⟨.hbm, 5, rfl⟩
abbrev main_v3_scv : Ref sig .scVector := ⟨.hbm, 6, rfl⟩
abbrev main_v4_scv : Ref sig .scVector := ⟨.hbm, 7, rfl⟩
abbrev cc0_stg0_0 : Ref sig .tc := ⟨.vmem, 0, rfl⟩
abbrev cc0_stg1_0 : Ref sig .tc := ⟨.vmem, 1, rfl⟩
abbrev cc1_scratch4 : Ref sig .scVector := ⟨.shared, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem1_0 : DmaSem sig := 1
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := .none

abbrev stage0_0 : Fin 1 → Memref sig .tc .vmem S20x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S81920 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨2, ![2, 16], ![false, false]⟩

def k1_off1 (i : grid1.Coords) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
def k1_off2 (i : grid1.Coords) : Fin 1 → Nat :=
  let arg1 : BitVec 32 := BitVec.ofNat 32 (i 1).val
  let c5120_i32_3 : BitVec 32 := 5120#32
  let v8 : BitVec 32 := Scalar.muli arg1 c5120_i32_3
  ![v8.toNat]
@[reducible] def k1_t1_loop : Scf.Loop 32 :=
  let c0_i32_9 : BitVec 32 := 0#32
  let c32_i32 : BitVec 32 := 32#32
  let v13 : BitVec 32 := Scalar.addi c0_i32_9 c32_i32
  let c1_i32 : BitVec 32 := 1#32
  ⟨c0_i32_9, v13, c1_i32⟩
def k1_off3 (k1_t1 : Fin k1_t1_loop.trips) : Fin 2 → Nat :=
  let c0_i32_11 : BitVec 32 := 0#32
  let v16 : Index := Scalar.indexCast c0_i32_11
  let c0_i32_9 : BitVec 32 := 0#32
  let c1_i32 : BitVec 32 := 1#32
  let arg13 : BitVec 32 := Scf.iv c0_i32_9 c1_i32 k1_t1
  let c16_i32 : BitVec 32 := 16#32
  let v14 : BitVec 32 := Scalar.muli arg13 c16_i32
  let v17 : Index := Scalar.indexCast v14
  ![0, v17.toNat]

def k1_chk1 (v24 : IVec S16 32) : Prop :=
  (∀ a x, ((![v24] : Fin 1 → IVec S16 32) a x).toNat < S81920.size a)
theorem k1_idx1_inb : ∀ (v24 : IVec S16 32) (k1_hw1 : k1_chk1 v24), ∀ a x, ((![v24] : Fin 1 → IVec S16 32) a x).toNat < S81920.size a := fun v24 k1_hw1 => k1_hw1
def k1_off4 (k1_t1 : Fin k1_t1_loop.trips) : Fin 2 → Nat :=
  let c1_i32_13 : BitVec 32 := 1#32
  let v27 : Index := Scalar.indexCast c1_i32_13
  let c0_i32_9 : BitVec 32 := 0#32
  let c1_i32 : BitVec 32 := 1#32
  let arg13 : BitVec 32 := Scf.iv c0_i32_9 c1_i32 k1_t1
  let c16_i32 : BitVec 32 := 16#32
  let v14 : BitVec 32 := Scalar.muli arg13 c16_i32
  let v28 : Index := Scalar.indexCast v14
  ![1, v28.toNat]

def k1_chk2 (v35 : IVec S16 32) : Prop :=
  (∀ a x, ((![v35] : Fin 1 → IVec S16 32) a x).toNat < S81920.size a)
theorem k1_idx2_inb : ∀ (v35 : IVec S16 32) (k1_hw2 : k1_chk2 v35), ∀ a x, ((![v35] : Fin 1 → IVec S16 32) a x).toNat < S81920.size a := fun v35 k1_hw2 => k1_hw2
def k1_off5 (k1_t1 : Fin k1_t1_loop.trips) : Fin 2 → Nat :=
  let c2_i32_16 : BitVec 32 := 2#32
  let v38 : Index := Scalar.indexCast c2_i32_16
  let c0_i32_9 : BitVec 32 := 0#32
  let c1_i32 : BitVec 32 := 1#32
  let arg13 : BitVec 32 := Scf.iv c0_i32_9 c1_i32 k1_t1
  let c16_i32 : BitVec 32 := 16#32
  let v14 : BitVec 32 := Scalar.muli arg13 c16_i32
  let v39 : Index := Scalar.indexCast v14
  ![2, v39.toNat]

def k1_chk3 (v46 : IVec S16 32) : Prop :=
  (∀ a x, ((![v46] : Fin 1 → IVec S16 32) a x).toNat < S81920.size a)
theorem k1_idx3_inb : ∀ (v46 : IVec S16 32) (k1_hw3 : k1_chk3 v46), ∀ a x, ((![v46] : Fin 1 → IVec S16 32) a x).toNat < S81920.size a := fun v46 k1_hw3 => k1_hw3
def k1_off6 (k1_t1 : Fin k1_t1_loop.trips) : Fin 2 → Nat :=
  let c3_i32 : BitVec 32 := 3#32
  let v49 : Index := Scalar.indexCast c3_i32
  let c0_i32_9 : BitVec 32 := 0#32
  let c1_i32 : BitVec 32 := 1#32
  let arg13 : BitVec 32 := Scf.iv c0_i32_9 c1_i32 k1_t1
  let c16_i32 : BitVec 32 := 16#32
  let v14 : BitVec 32 := Scalar.muli arg13 c16_i32
  let v50 : Index := Scalar.indexCast v14
  ![3, v50.toNat]

def k1_chk4 (v57 : IVec S16 32) : Prop :=
  (∀ a x, ((![v57] : Fin 1 → IVec S16 32) a x).toNat < S81920.size a)
theorem k1_idx4_inb : ∀ (v57 : IVec S16 32) (k1_hw4 : k1_chk4 v57), ∀ a x, ((![v57] : Fin 1 → IVec S16 32) a x).toNat < S81920.size a := fun v57 k1_hw4 => k1_hw4
def k1_off7 (k1_t1 : Fin k1_t1_loop.trips) : Fin 2 → Nat :=
  let c4_i32 : BitVec 32 := 4#32
  let v60 : Index := Scalar.indexCast c4_i32
  let c0_i32_9 : BitVec 32 := 0#32
  let c1_i32 : BitVec 32 := 1#32
  let arg13 : BitVec 32 := Scf.iv c0_i32_9 c1_i32 k1_t1
  let c16_i32 : BitVec 32 := 16#32
  let v14 : BitVec 32 := Scalar.muli arg13 c16_i32
  let v61 : Index := Scalar.indexCast v14
  ![4, v61.toNat]

def k1_chk5 (v68 : IVec S16 32) : Prop :=
  (∀ a x, ((![v68] : Fin 1 → IVec S16 32) a x).toNat < S81920.size a)
theorem k1_idx5_inb : ∀ (v68 : IVec S16 32) (k1_hw5 : k1_chk5 v68), ∀ a x, ((![v68] : Fin 1 → IVec S16 32) a x).toNat < S81920.size a := fun v68 k1_hw5 => k1_hw5
def k1_off8 (k1_t1 : Fin k1_t1_loop.trips) : Fin 2 → Nat :=
  let c5_i32 : BitVec 32 := 5#32
  let v71 : Index := Scalar.indexCast c5_i32
  let c0_i32_9 : BitVec 32 := 0#32
  let c1_i32 : BitVec 32 := 1#32
  let arg13 : BitVec 32 := Scf.iv c0_i32_9 c1_i32 k1_t1
  let c16_i32 : BitVec 32 := 16#32
  let v14 : BitVec 32 := Scalar.muli arg13 c16_i32
  let v72 : Index := Scalar.indexCast v14
  ![5, v72.toNat]

def k1_chk6 (v79 : IVec S16 32) : Prop :=
  (∀ a x, ((![v79] : Fin 1 → IVec S16 32) a x).toNat < S81920.size a)
theorem k1_idx6_inb : ∀ (v79 : IVec S16 32) (k1_hw6 : k1_chk6 v79), ∀ a x, ((![v79] : Fin 1 → IVec S16 32) a x).toNat < S81920.size a := fun v79 k1_hw6 => k1_hw6
def k1_off9 (k1_t1 : Fin k1_t1_loop.trips) : Fin 2 → Nat :=
  let c6_i32 : BitVec 32 := 6#32
  let v82 : Index := Scalar.indexCast c6_i32
  let c0_i32_9 : BitVec 32 := 0#32
  let c1_i32 : BitVec 32 := 1#32
  let arg13 : BitVec 32 := Scf.iv c0_i32_9 c1_i32 k1_t1
  let c16_i32 : BitVec 32 := 16#32
  let v14 : BitVec 32 := Scalar.muli arg13 c16_i32
  let v83 : Index := Scalar.indexCast v14
  ![6, v83.toNat]

def k1_chk7 (v90 : IVec S16 32) : Prop :=
  (∀ a x, ((![v90] : Fin 1 → IVec S16 32) a x).toNat < S81920.size a)
theorem k1_idx7_inb : ∀ (v90 : IVec S16 32) (k1_hw7 : k1_chk7 v90), ∀ a x, ((![v90] : Fin 1 → IVec S16 32) a x).toNat < S81920.size a := fun v90 k1_hw7 => k1_hw7
def k1_off10 (k1_t1 : Fin k1_t1_loop.trips) : Fin 2 → Nat :=
  let c7_i32 : BitVec 32 := 7#32
  let v93 : Index := Scalar.indexCast c7_i32
  let c0_i32_9 : BitVec 32 := 0#32
  let c1_i32 : BitVec 32 := 1#32
  let arg13 : BitVec 32 := Scf.iv c0_i32_9 c1_i32 k1_t1
  let c16_i32 : BitVec 32 := 16#32
  let v14 : BitVec 32 := Scalar.muli arg13 c16_i32
  let v94 : Index := Scalar.indexCast v14
  ![7, v94.toNat]

def k1_chk8 (v101 : IVec S16 32) : Prop :=
  (∀ a x, ((![v101] : Fin 1 → IVec S16 32) a x).toNat < S81920.size a)
theorem k1_idx8_inb : ∀ (v101 : IVec S16 32) (k1_hw8 : k1_chk8 v101), ∀ a x, ((![v101] : Fin 1 → IVec S16 32) a x).toNat < S81920.size a := fun v101 k1_hw8 => k1_hw8
def k1_off11 (k1_t1 : Fin k1_t1_loop.trips) : Fin 2 → Nat :=
  let c8_i32 : BitVec 32 := 8#32
  let v104 : Index := Scalar.indexCast c8_i32
  let c0_i32_9 : BitVec 32 := 0#32
  let c1_i32 : BitVec 32 := 1#32
  let arg13 : BitVec 32 := Scf.iv c0_i32_9 c1_i32 k1_t1
  let c16_i32 : BitVec 32 := 16#32
  let v14 : BitVec 32 := Scalar.muli arg13 c16_i32
  let v105 : Index := Scalar.indexCast v14
  ![8, v105.toNat]

def k1_chk9 (v112 : IVec S16 32) : Prop :=
  (∀ a x, ((![v112] : Fin 1 → IVec S16 32) a x).toNat < S81920.size a)
theorem k1_idx9_inb : ∀ (v112 : IVec S16 32) (k1_hw9 : k1_chk9 v112), ∀ a x, ((![v112] : Fin 1 → IVec S16 32) a x).toNat < S81920.size a := fun v112 k1_hw9 => k1_hw9
def k1_off12 (k1_t1 : Fin k1_t1_loop.trips) : Fin 2 → Nat :=
  let c9_i32 : BitVec 32 := 9#32
  let v115 : Index := Scalar.indexCast c9_i32
  let c0_i32_9 : BitVec 32 := 0#32
  let c1_i32 : BitVec 32 := 1#32
  let arg13 : BitVec 32 := Scf.iv c0_i32_9 c1_i32 k1_t1
  let c16_i32 : BitVec 32 := 16#32
  let v14 : BitVec 32 := Scalar.muli arg13 c16_i32
  let v116 : Index := Scalar.indexCast v14
  ![9, v116.toNat]

def k1_chk10 (v123 : IVec S16 32) : Prop :=
  (∀ a x, ((![v123] : Fin 1 → IVec S16 32) a x).toNat < S81920.size a)
theorem k1_idx10_inb : ∀ (v123 : IVec S16 32) (k1_hw10 : k1_chk10 v123), ∀ a x, ((![v123] : Fin 1 → IVec S16 32) a x).toNat < S81920.size a := fun v123 k1_hw10 => k1_hw10
def k1_off13 (k1_t1 : Fin k1_t1_loop.trips) : Fin 2 → Nat :=
  let c10_i32 : BitVec 32 := 10#32
  let v126 : Index := Scalar.indexCast c10_i32
  let c0_i32_9 : BitVec 32 := 0#32
  let c1_i32 : BitVec 32 := 1#32
  let arg13 : BitVec 32 := Scf.iv c0_i32_9 c1_i32 k1_t1
  let c16_i32 : BitVec 32 := 16#32
  let v14 : BitVec 32 := Scalar.muli arg13 c16_i32
  let v127 : Index := Scalar.indexCast v14
  ![10, v127.toNat]

def k1_chk11 (v134 : IVec S16 32) : Prop :=
  (∀ a x, ((![v134] : Fin 1 → IVec S16 32) a x).toNat < S81920.size a)
theorem k1_idx11_inb : ∀ (v134 : IVec S16 32) (k1_hw11 : k1_chk11 v134), ∀ a x, ((![v134] : Fin 1 → IVec S16 32) a x).toNat < S81920.size a := fun v134 k1_hw11 => k1_hw11
def k1_off14 (k1_t1 : Fin k1_t1_loop.trips) : Fin 2 → Nat :=
  let c11_i32 : BitVec 32 := 11#32
  let v137 : Index := Scalar.indexCast c11_i32
  let c0_i32_9 : BitVec 32 := 0#32
  let c1_i32 : BitVec 32 := 1#32
  let arg13 : BitVec 32 := Scf.iv c0_i32_9 c1_i32 k1_t1
  let c16_i32 : BitVec 32 := 16#32
  let v14 : BitVec 32 := Scalar.muli arg13 c16_i32
  let v138 : Index := Scalar.indexCast v14
  ![11, v138.toNat]

def k1_chk12 (v145 : IVec S16 32) : Prop :=
  (∀ a x, ((![v145] : Fin 1 → IVec S16 32) a x).toNat < S81920.size a)
theorem k1_idx12_inb : ∀ (v145 : IVec S16 32) (k1_hw12 : k1_chk12 v145), ∀ a x, ((![v145] : Fin 1 → IVec S16 32) a x).toNat < S81920.size a := fun v145 k1_hw12 => k1_hw12
def k1_off15 (k1_t1 : Fin k1_t1_loop.trips) : Fin 2 → Nat :=
  let c12_i32 : BitVec 32 := 12#32
  let v148 : Index := Scalar.indexCast c12_i32
  let c0_i32_9 : BitVec 32 := 0#32
  let c1_i32 : BitVec 32 := 1#32
  let arg13 : BitVec 32 := Scf.iv c0_i32_9 c1_i32 k1_t1
  let c16_i32 : BitVec 32 := 16#32
  let v14 : BitVec 32 := Scalar.muli arg13 c16_i32
  let v149 : Index := Scalar.indexCast v14
  ![12, v149.toNat]

def k1_chk13 (v156 : IVec S16 32) : Prop :=
  (∀ a x, ((![v156] : Fin 1 → IVec S16 32) a x).toNat < S81920.size a)
theorem k1_idx13_inb : ∀ (v156 : IVec S16 32) (k1_hw13 : k1_chk13 v156), ∀ a x, ((![v156] : Fin 1 → IVec S16 32) a x).toNat < S81920.size a := fun v156 k1_hw13 => k1_hw13
def k1_off16 (k1_t1 : Fin k1_t1_loop.trips) : Fin 2 → Nat :=
  let c13_i32 : BitVec 32 := 13#32
  let v159 : Index := Scalar.indexCast c13_i32
  let c0_i32_9 : BitVec 32 := 0#32
  let c1_i32 : BitVec 32 := 1#32
  let arg13 : BitVec 32 := Scf.iv c0_i32_9 c1_i32 k1_t1
  let c16_i32 : BitVec 32 := 16#32
  let v14 : BitVec 32 := Scalar.muli arg13 c16_i32
  let v160 : Index := Scalar.indexCast v14
  ![13, v160.toNat]

def k1_chk14 (v167 : IVec S16 32) : Prop :=
  (∀ a x, ((![v167] : Fin 1 → IVec S16 32) a x).toNat < S81920.size a)
theorem k1_idx14_inb : ∀ (v167 : IVec S16 32) (k1_hw14 : k1_chk14 v167), ∀ a x, ((![v167] : Fin 1 → IVec S16 32) a x).toNat < S81920.size a := fun v167 k1_hw14 => k1_hw14
def k1_off17 (k1_t1 : Fin k1_t1_loop.trips) : Fin 2 → Nat :=
  let c14_i32 : BitVec 32 := 14#32
  let v170 : Index := Scalar.indexCast c14_i32
  let c0_i32_9 : BitVec 32 := 0#32
  let c1_i32 : BitVec 32 := 1#32
  let arg13 : BitVec 32 := Scf.iv c0_i32_9 c1_i32 k1_t1
  let c16_i32 : BitVec 32 := 16#32
  let v14 : BitVec 32 := Scalar.muli arg13 c16_i32
  let v171 : Index := Scalar.indexCast v14
  ![14, v171.toNat]

def k1_chk15 (v178 : IVec S16 32) : Prop :=
  (∀ a x, ((![v178] : Fin 1 → IVec S16 32) a x).toNat < S81920.size a)
theorem k1_idx15_inb : ∀ (v178 : IVec S16 32) (k1_hw15 : k1_chk15 v178), ∀ a x, ((![v178] : Fin 1 → IVec S16 32) a x).toNat < S81920.size a := fun v178 k1_hw15 => k1_hw15
def k1_off18 (k1_t1 : Fin k1_t1_loop.trips) : Fin 2 → Nat :=
  let c15_i32 : BitVec 32 := 15#32
  let v181 : Index := Scalar.indexCast c15_i32
  let c0_i32_9 : BitVec 32 := 0#32
  let c1_i32 : BitVec 32 := 1#32
  let arg13 : BitVec 32 := Scf.iv c0_i32_9 c1_i32 k1_t1
  let c16_i32 : BitVec 32 := 16#32
  let v14 : BitVec 32 := Scalar.muli arg13 c16_i32
  let v182 : Index := Scalar.indexCast v14
  ![15, v182.toNat]

def k1_chk16 (v189 : IVec S16 32) : Prop :=
  (∀ a x, ((![v189] : Fin 1 → IVec S16 32) a x).toNat < S81920.size a)
theorem k1_idx16_inb : ∀ (v189 : IVec S16 32) (k1_hw16 : k1_chk16 v189), ∀ a x, ((![v189] : Fin 1 → IVec S16 32) a x).toNat < S81920.size a := fun v189 k1_hw16 => k1_hw16
def k1_off19 (k1_t1 : Fin k1_t1_loop.trips) : Fin 2 → Nat :=
  let c16_i32_45 : BitVec 32 := 16#32
  let v192 : Index := Scalar.indexCast c16_i32_45
  let c0_i32_9 : BitVec 32 := 0#32
  let c1_i32 : BitVec 32 := 1#32
  let arg13 : BitVec 32 := Scf.iv c0_i32_9 c1_i32 k1_t1
  let c16_i32 : BitVec 32 := 16#32
  let v14 : BitVec 32 := Scalar.muli arg13 c16_i32
  let v193 : Index := Scalar.indexCast v14
  ![16, v193.toNat]

def k1_chk17 (v200 : IVec S16 32) : Prop :=
  (∀ a x, ((![v200] : Fin 1 → IVec S16 32) a x).toNat < S81920.size a)
theorem k1_idx17_inb : ∀ (v200 : IVec S16 32) (k1_hw17 : k1_chk17 v200), ∀ a x, ((![v200] : Fin 1 → IVec S16 32) a x).toNat < S81920.size a := fun v200 k1_hw17 => k1_hw17
def k1_off20 (k1_t1 : Fin k1_t1_loop.trips) : Fin 2 → Nat :=
  let c17_i32 : BitVec 32 := 17#32
  let v203 : Index := Scalar.indexCast c17_i32
  let c0_i32_9 : BitVec 32 := 0#32
  let c1_i32 : BitVec 32 := 1#32
  let arg13 : BitVec 32 := Scf.iv c0_i32_9 c1_i32 k1_t1
  let c16_i32 : BitVec 32 := 16#32
  let v14 : BitVec 32 := Scalar.muli arg13 c16_i32
  let v204 : Index := Scalar.indexCast v14
  ![17, v204.toNat]

def k1_chk18 (v211 : IVec S16 32) : Prop :=
  (∀ a x, ((![v211] : Fin 1 → IVec S16 32) a x).toNat < S81920.size a)
theorem k1_idx18_inb : ∀ (v211 : IVec S16 32) (k1_hw18 : k1_chk18 v211), ∀ a x, ((![v211] : Fin 1 → IVec S16 32) a x).toNat < S81920.size a := fun v211 k1_hw18 => k1_hw18
def k1_off21 (k1_t1 : Fin k1_t1_loop.trips) : Fin 2 → Nat :=
  let c18_i32 : BitVec 32 := 18#32
  let v214 : Index := Scalar.indexCast c18_i32
  let c0_i32_9 : BitVec 32 := 0#32
  let c1_i32 : BitVec 32 := 1#32
  let arg13 : BitVec 32 := Scf.iv c0_i32_9 c1_i32 k1_t1
  let c16_i32 : BitVec 32 := 16#32
  let v14 : BitVec 32 := Scalar.muli arg13 c16_i32
  let v215 : Index := Scalar.indexCast v14
  ![18, v215.toNat]

def k1_chk19 (v222 : IVec S16 32) : Prop :=
  (∀ a x, ((![v222] : Fin 1 → IVec S16 32) a x).toNat < S81920.size a)
theorem k1_idx19_inb : ∀ (v222 : IVec S16 32) (k1_hw19 : k1_chk19 v222), ∀ a x, ((![v222] : Fin 1 → IVec S16 32) a x).toNat < S81920.size a := fun v222 k1_hw19 => k1_hw19
def k1_off22 (k1_t1 : Fin k1_t1_loop.trips) : Fin 2 → Nat :=
  let c19_i32 : BitVec 32 := 19#32
  let v225 : Index := Scalar.indexCast c19_i32
  let c0_i32_9 : BitVec 32 := 0#32
  let c1_i32 : BitVec 32 := 1#32
  let arg13 : BitVec 32 := Scf.iv c0_i32_9 c1_i32 k1_t1
  let c16_i32 : BitVec 32 := 16#32
  let v14 : BitVec 32 := Scalar.muli arg13 c16_i32
  let v226 : Index := Scalar.indexCast v14
  ![19, v226.toNat]

def k1_chk20 (v233 : IVec S16 32) : Prop :=
  (∀ a x, ((![v233] : Fin 1 → IVec S16 32) a x).toNat < S81920.size a)
theorem k1_idx20_inb : ∀ (v233 : IVec S16 32) (k1_hw20 : k1_chk20 v233), ∀ a x, ((![v233] : Fin 1 → IVec S16 32) a x).toNat < S81920.size a := fun v233 k1_hw20 => k1_hw20
def k1_off23 (k1_t1 : Fin k1_t1_loop.trips) : Fin 2 → Nat :=
  let c20_i32 : BitVec 32 := 20#32
  let v236 : Index := Scalar.indexCast c20_i32
  let c0_i32_9 : BitVec 32 := 0#32
  let c1_i32 : BitVec 32 := 1#32
  let arg13 : BitVec 32 := Scf.iv c0_i32_9 c1_i32 k1_t1
  let c16_i32 : BitVec 32 := 16#32
  let v14 : BitVec 32 := Scalar.muli arg13 c16_i32
  let v237 : Index := Scalar.indexCast v14
  ![20, v237.toNat]

def k1_chk21 (v244 : IVec S16 32) : Prop :=
  (∀ a x, ((![v244] : Fin 1 → IVec S16 32) a x).toNat < S81920.size a)
theorem k1_idx21_inb : ∀ (v244 : IVec S16 32) (k1_hw21 : k1_chk21 v244), ∀ a x, ((![v244] : Fin 1 → IVec S16 32) a x).toNat < S81920.size a := fun v244 k1_hw21 => k1_hw21
def k1_off24 (k1_t1 : Fin k1_t1_loop.trips) : Fin 2 → Nat :=
  let c21_i32 : BitVec 32 := 21#32
  let v247 : Index := Scalar.indexCast c21_i32
  let c0_i32_9 : BitVec 32 := 0#32
  let c1_i32 : BitVec 32 := 1#32
  let arg13 : BitVec 32 := Scf.iv c0_i32_9 c1_i32 k1_t1
  let c16_i32 : BitVec 32 := 16#32
  let v14 : BitVec 32 := Scalar.muli arg13 c16_i32
  let v248 : Index := Scalar.indexCast v14
  ![21, v248.toNat]

def k1_chk22 (v255 : IVec S16 32) : Prop :=
  (∀ a x, ((![v255] : Fin 1 → IVec S16 32) a x).toNat < S81920.size a)
theorem k1_idx22_inb : ∀ (v255 : IVec S16 32) (k1_hw22 : k1_chk22 v255), ∀ a x, ((![v255] : Fin 1 → IVec S16 32) a x).toNat < S81920.size a := fun v255 k1_hw22 => k1_hw22
def k1_off25 (k1_t1 : Fin k1_t1_loop.trips) : Fin 2 → Nat :=
  let c22_i32 : BitVec 32 := 22#32
  let v258 : Index := Scalar.indexCast c22_i32
  let c0_i32_9 : BitVec 32 := 0#32
  let c1_i32 : BitVec 32 := 1#32
  let arg13 : BitVec 32 := Scf.iv c0_i32_9 c1_i32 k1_t1
  let c16_i32 : BitVec 32 := 16#32
  let v14 : BitVec 32 := Scalar.muli arg13 c16_i32
  let v259 : Index := Scalar.indexCast v14
  ![22, v259.toNat]

def k1_chk23 (v266 : IVec S16 32) : Prop :=
  (∀ a x, ((![v266] : Fin 1 → IVec S16 32) a x).toNat < S81920.size a)
theorem k1_idx23_inb : ∀ (v266 : IVec S16 32) (k1_hw23 : k1_chk23 v266), ∀ a x, ((![v266] : Fin 1 → IVec S16 32) a x).toNat < S81920.size a := fun v266 k1_hw23 => k1_hw23
def k1_off26 (k1_t1 : Fin k1_t1_loop.trips) : Fin 2 → Nat :=
  let c23_i32 : BitVec 32 := 23#32
  let v269 : Index := Scalar.indexCast c23_i32
  let c0_i32_9 : BitVec 32 := 0#32
  let c1_i32 : BitVec 32 := 1#32
  let arg13 : BitVec 32 := Scf.iv c0_i32_9 c1_i32 k1_t1
  let c16_i32 : BitVec 32 := 16#32
  let v14 : BitVec 32 := Scalar.muli arg13 c16_i32
  let v270 : Index := Scalar.indexCast v14
  ![23, v270.toNat]

def k1_chk24 (v277 : IVec S16 32) : Prop :=
  (∀ a x, ((![v277] : Fin 1 → IVec S16 32) a x).toNat < S81920.size a)
theorem k1_idx24_inb : ∀ (v277 : IVec S16 32) (k1_hw24 : k1_chk24 v277), ∀ a x, ((![v277] : Fin 1 → IVec S16 32) a x).toNat < S81920.size a := fun v277 k1_hw24 => k1_hw24
def k1_off27 (k1_t1 : Fin k1_t1_loop.trips) : Fin 2 → Nat :=
  let c24_i32 : BitVec 32 := 24#32
  let v280 : Index := Scalar.indexCast c24_i32
  let c0_i32_9 : BitVec 32 := 0#32
  let c1_i32 : BitVec 32 := 1#32
  let arg13 : BitVec 32 := Scf.iv c0_i32_9 c1_i32 k1_t1
  let c16_i32 : BitVec 32 := 16#32
  let v14 : BitVec 32 := Scalar.muli arg13 c16_i32
  let v281 : Index := Scalar.indexCast v14
  ![24, v281.toNat]

def k1_chk25 (v288 : IVec S16 32) : Prop :=
  (∀ a x, ((![v288] : Fin 1 → IVec S16 32) a x).toNat < S81920.size a)
theorem k1_idx25_inb : ∀ (v288 : IVec S16 32) (k1_hw25 : k1_chk25 v288), ∀ a x, ((![v288] : Fin 1 → IVec S16 32) a x).toNat < S81920.size a := fun v288 k1_hw25 => k1_hw25
def k1_off28 (k1_t1 : Fin k1_t1_loop.trips) : Fin 2 → Nat :=
  let c25_i32 : BitVec 32 := 25#32
  let v291 : Index := Scalar.indexCast c25_i32
  let c0_i32_9 : BitVec 32 := 0#32
  let c1_i32 : BitVec 32 := 1#32
  let arg13 : BitVec 32 := Scf.iv c0_i32_9 c1_i32 k1_t1
  let c16_i32 : BitVec 32 := 16#32
  let v14 : BitVec 32 := Scalar.muli arg13 c16_i32
  let v292 : Index := Scalar.indexCast v14
  ![25, v292.toNat]

def k1_chk26 (v299 : IVec S16 32) : Prop :=
  (∀ a x, ((![v299] : Fin 1 → IVec S16 32) a x).toNat < S81920.size a)
theorem k1_idx26_inb : ∀ (v299 : IVec S16 32) (k1_hw26 : k1_chk26 v299), ∀ a x, ((![v299] : Fin 1 → IVec S16 32) a x).toNat < S81920.size a := fun v299 k1_hw26 => k1_hw26
def k1_off29 (k1_t1 : Fin k1_t1_loop.trips) : Fin 2 → Nat :=
  let c26_i32 : BitVec 32 := 26#32
  let v302 : Index := Scalar.indexCast c26_i32
  let c0_i32_9 : BitVec 32 := 0#32
  let c1_i32 : BitVec 32 := 1#32
  let arg13 : BitVec 32 := Scf.iv c0_i32_9 c1_i32 k1_t1
  let c16_i32 : BitVec 32 := 16#32
  let v14 : BitVec 32 := Scalar.muli arg13 c16_i32
  let v303 : Index := Scalar.indexCast v14
  ![26, v303.toNat]

def k1_chk27 (v310 : IVec S16 32) : Prop :=
  (∀ a x, ((![v310] : Fin 1 → IVec S16 32) a x).toNat < S81920.size a)
theorem k1_idx27_inb : ∀ (v310 : IVec S16 32) (k1_hw27 : k1_chk27 v310), ∀ a x, ((![v310] : Fin 1 → IVec S16 32) a x).toNat < S81920.size a := fun v310 k1_hw27 => k1_hw27
def k1_off30 (k1_t1 : Fin k1_t1_loop.trips) : Fin 2 → Nat :=
  let c27_i32 : BitVec 32 := 27#32
  let v313 : Index := Scalar.indexCast c27_i32
  let c0_i32_9 : BitVec 32 := 0#32
  let c1_i32 : BitVec 32 := 1#32
  let arg13 : BitVec 32 := Scf.iv c0_i32_9 c1_i32 k1_t1
  let c16_i32 : BitVec 32 := 16#32
  let v14 : BitVec 32 := Scalar.muli arg13 c16_i32
  let v314 : Index := Scalar.indexCast v14
  ![27, v314.toNat]

def k1_chk28 (v321 : IVec S16 32) : Prop :=
  (∀ a x, ((![v321] : Fin 1 → IVec S16 32) a x).toNat < S81920.size a)
theorem k1_idx28_inb : ∀ (v321 : IVec S16 32) (k1_hw28 : k1_chk28 v321), ∀ a x, ((![v321] : Fin 1 → IVec S16 32) a x).toNat < S81920.size a := fun v321 k1_hw28 => k1_hw28
def k1_off31 (k1_t1 : Fin k1_t1_loop.trips) : Fin 2 → Nat :=
  let c28_i32 : BitVec 32 := 28#32
  let v324 : Index := Scalar.indexCast c28_i32
  let c0_i32_9 : BitVec 32 := 0#32
  let c1_i32 : BitVec 32 := 1#32
  let arg13 : BitVec 32 := Scf.iv c0_i32_9 c1_i32 k1_t1
  let c16_i32 : BitVec 32 := 16#32
  let v14 : BitVec 32 := Scalar.muli arg13 c16_i32
  let v325 : Index := Scalar.indexCast v14
  ![28, v325.toNat]

def k1_chk29 (v332 : IVec S16 32) : Prop :=
  (∀ a x, ((![v332] : Fin 1 → IVec S16 32) a x).toNat < S81920.size a)
theorem k1_idx29_inb : ∀ (v332 : IVec S16 32) (k1_hw29 : k1_chk29 v332), ∀ a x, ((![v332] : Fin 1 → IVec S16 32) a x).toNat < S81920.size a := fun v332 k1_hw29 => k1_hw29
def k1_off32 (k1_t1 : Fin k1_t1_loop.trips) : Fin 2 → Nat :=
  let c29_i32 : BitVec 32 := 29#32
  let v335 : Index := Scalar.indexCast c29_i32
  let c0_i32_9 : BitVec 32 := 0#32
  let c1_i32 : BitVec 32 := 1#32
  let arg13 : BitVec 32 := Scf.iv c0_i32_9 c1_i32 k1_t1
  let c16_i32 : BitVec 32 := 16#32
  let v14 : BitVec 32 := Scalar.muli arg13 c16_i32
  let v336 : Index := Scalar.indexCast v14
  ![29, v336.toNat]

def k1_chk30 (v343 : IVec S16 32) : Prop :=
  (∀ a x, ((![v343] : Fin 1 → IVec S16 32) a x).toNat < S81920.size a)
theorem k1_idx30_inb : ∀ (v343 : IVec S16 32) (k1_hw30 : k1_chk30 v343), ∀ a x, ((![v343] : Fin 1 → IVec S16 32) a x).toNat < S81920.size a := fun v343 k1_hw30 => k1_hw30
def k1_off33 (k1_t1 : Fin k1_t1_loop.trips) : Fin 2 → Nat :=
  let c30_i32 : BitVec 32 := 30#32
  let v346 : Index := Scalar.indexCast c30_i32
  let c0_i32_9 : BitVec 32 := 0#32
  let c1_i32 : BitVec 32 := 1#32
  let arg13 : BitVec 32 := Scf.iv c0_i32_9 c1_i32 k1_t1
  let c16_i32 : BitVec 32 := 16#32
  let v14 : BitVec 32 := Scalar.muli arg13 c16_i32
  let v347 : Index := Scalar.indexCast v14
  ![30, v347.toNat]

def k1_chk31 (v354 : IVec S16 32) : Prop :=
  (∀ a x, ((![v354] : Fin 1 → IVec S16 32) a x).toNat < S81920.size a)
theorem k1_idx31_inb : ∀ (v354 : IVec S16 32) (k1_hw31 : k1_chk31 v354), ∀ a x, ((![v354] : Fin 1 → IVec S16 32) a x).toNat < S81920.size a := fun v354 k1_hw31 => k1_hw31
def k1_off34 (k1_t1 : Fin k1_t1_loop.trips) : Fin 2 → Nat :=
  let c31_i32 : BitVec 32 := 31#32
  let v357 : Index := Scalar.indexCast c31_i32
  let c0_i32_9 : BitVec 32 := 0#32
  let c1_i32 : BitVec 32 := 1#32
  let arg13 : BitVec 32 := Scf.iv c0_i32_9 c1_i32 k1_t1
  let c16_i32 : BitVec 32 := 16#32
  let v14 : BitVec 32 := Scalar.muli arg13 c16_i32
  let v358 : Index := Scalar.indexCast v14
  ![31, v358.toNat]

def k1_chk32 (v365 : IVec S16 32) : Prop :=
  (∀ a x, ((![v365] : Fin 1 → IVec S16 32) a x).toNat < S81920.size a)
theorem k1_idx32_inb : ∀ (v365 : IVec S16 32) (k1_hw32 : k1_chk32 v365), ∀ a x, ((![v365] : Fin 1 → IVec S16 32) a x).toNat < S81920.size a := fun v365 k1_hw32 => k1_hw32
def k1_off35 (k1_t1 : Fin k1_t1_loop.trips) : Fin 1 → Nat :=
  let c0_i32_9 : BitVec 32 := 0#32
  let c1_i32 : BitVec 32 := 1#32
  let arg13 : BitVec 32 := Scf.iv c0_i32_9 c1_i32 k1_t1
  let c16_i32 : BitVec 32 := 16#32
  let v14 : BitVec 32 := Scalar.muli arg13 c16_i32
  let v370 : Index := Scalar.indexCast v14
  ![v370.toNat]
def k1_off36 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x20 : Shape := ⟨2, ![4096, 20]⟩
abbrev S16384x32 : Shape := ⟨2, ![16384, 32]⟩
abbrev S_ : Shape := ⟨0, ![]⟩
abbrev S16384x32x1 : Shape := ⟨3, ![16384, 32, 1]⟩
abbrev S1 : Shape := ⟨1, ![1]⟩
abbrev S1x1x1 : Shape := ⟨3, ![1, 1, 1]⟩
abbrev S16384x32x20 : Shape := ⟨3, ![16384, 32, 20]⟩
abbrev S16384x32x1x1 : Shape := ⟨4, ![16384, 32, 1, 1]⟩
abbrev S1x1x1x1 : Shape := ⟨4, ![1, 1, 1, 1]⟩
abbrev S16384 : Shape := ⟨1, ![16384]⟩

abbrev nBuf : Space → Nat
  | .hbm => 70
  | .vmem => 0
  | .smem => 0
  | _ => 0

abbrev bufTy : (tb : Table) → Fin (tcTables nBuf tb) → BufTy
  | .hbm, ⟨0, _⟩ => ⟨S4096x20, .f32⟩
  | .hbm, ⟨1, _⟩ => ⟨S16384x32, .i32⟩
  | .hbm, ⟨2, _⟩ => ⟨S16384x32, .i32⟩
  | .hbm, ⟨3, _⟩ => ⟨S_, .i32⟩
  | .hbm, ⟨4, _⟩ => ⟨S16384x32, .i32⟩
  | .hbm, ⟨5, _⟩ => ⟨S16384x32, .i1⟩
  | .hbm, ⟨6, _⟩ => ⟨S_, .i32⟩
  | .hbm, ⟨7, _⟩ => ⟨S16384x32, .i32⟩
  | .hbm, ⟨8, _⟩ => ⟨S16384x32, .i32⟩
  | .hbm, ⟨9, _⟩ => ⟨S16384x32, .i32⟩
  | .hbm, ⟨10, _⟩ => ⟨S16384x32x1, .i32⟩
  | .hbm, ⟨11, _⟩ => ⟨S1, .i32⟩
  | .hbm, ⟨12, _⟩ => ⟨S_, .i32⟩
  | .hbm, ⟨13, _⟩ => ⟨S16384x32x1, .i32⟩
  | .hbm, ⟨14, _⟩ => ⟨S16384x32x1, .i1⟩
  | .hbm, ⟨15, _⟩ => ⟨S1x1x1, .i32⟩
  | .hbm, ⟨16, _⟩ => ⟨S16384x32x1, .i32⟩
  | .hbm, ⟨17, _⟩ => ⟨S16384x32x1, .i1⟩
  | .hbm, ⟨18, _⟩ => ⟨S16384x32x1, .i1⟩
  | .hbm, ⟨19, _⟩ => ⟨S_, .i1⟩
  | .hbm, ⟨20, _⟩ => ⟨S16384x32, .i1⟩
  | .hbm, ⟨21, _⟩ => ⟨S16384x32x20, .f32⟩
  | .hbm, ⟨22, _⟩ => ⟨S16384x32x20, .i1⟩
  | .hbm, ⟨23, _⟩ => ⟨S_, .f32⟩
  | .hbm, ⟨24, _⟩ => ⟨S16384x32x20, .f32⟩
  | .hbm, ⟨25, _⟩ => ⟨S16384x32x20, .f32⟩
  | .hbm, ⟨26, _⟩ => ⟨S_, .f32⟩
  | .hbm, ⟨27, _⟩ => ⟨S16384x32, .f32⟩
  | .hbm, ⟨28, _⟩ => ⟨S_, .f32⟩
  | .hbm, ⟨29, _⟩ => ⟨S16384x32, .f32⟩
  | .hbm, ⟨30, _⟩ => ⟨S16384x32, .f32⟩
  | .hbm, ⟨31, _⟩ => ⟨S16384x32x1, .f32⟩
  | .hbm, ⟨32, _⟩ => ⟨S16384x32x20, .f32⟩
  | .hbm, ⟨33, _⟩ => ⟨S16384x32x20, .f32⟩
  | .hbm, ⟨34, _⟩ => ⟨S16384x32x20, .f32⟩
  | .hbm, ⟨35, _⟩ => ⟨S_, .f32⟩
  | .hbm, ⟨36, _⟩ => ⟨S16384x32, .f32⟩
  | .hbm, ⟨37, _⟩ => ⟨S16384x32x1, .f32⟩
  | .hbm, ⟨38, _⟩ => ⟨S16384x32x1, .f32⟩
  | .hbm, ⟨39, _⟩ => ⟨S16384x32x20, .f32⟩
  | .hbm, ⟨40, _⟩ => ⟨S16384x32x20, .f32⟩
  | .hbm, ⟨41, _⟩ => ⟨S16384x32x1, .i32⟩
  | .hbm, ⟨42, _⟩ => ⟨S_, .i32⟩
  | .hbm, ⟨43, _⟩ => ⟨S16384x32x1, .i32⟩
  | .hbm, ⟨44, _⟩ => ⟨S16384x32x1, .i1⟩
  | .hbm, ⟨45, _⟩ => ⟨S_, .i32⟩
  | .hbm, ⟨46, _⟩ => ⟨S16384x32x1, .i32⟩
  | .hbm, ⟨47, _⟩ => ⟨S16384x32x1, .i32⟩
  | .hbm, ⟨48, _⟩ => ⟨S16384x32x1, .i32⟩
  | .hbm, ⟨49, _⟩ => ⟨S16384x32x1x1, .i32⟩
  | .hbm, ⟨50, _⟩ => ⟨S1, .i32⟩
  | .hbm, ⟨51, _⟩ => ⟨S_, .i32⟩
  | .hbm, ⟨52, _⟩ => ⟨S16384x32x1x1, .i32⟩
  | .hbm, ⟨53, _⟩ => ⟨S16384x32x1x1, .i1⟩
  | .hbm, ⟨54, _⟩ => ⟨S1x1x1x1, .i32⟩
  | .hbm, ⟨55, _⟩ => ⟨S16384x32x1x1, .i32⟩
  | .hbm, ⟨56, _⟩ => ⟨S16384x32x1x1, .i1⟩
  | .hbm, ⟨57, _⟩ => ⟨S16384x32x1x1, .i1⟩
  | .hbm, ⟨58, _⟩ => ⟨S_, .i1⟩
  | .hbm, ⟨59, _⟩ => ⟨S16384x32x1, .i1⟩
  | .hbm, ⟨60, _⟩ => ⟨S16384x32x1, .f32⟩
  | .hbm, ⟨61, _⟩ => ⟨S_, .f32⟩
  | .hbm, ⟨62, _⟩ => ⟨S16384x32x1, .f32⟩
  | .hbm, ⟨63, _⟩ => ⟨S16384x32x1, .f32⟩
  | .hbm, ⟨64, _⟩ => ⟨S16384x32, .f32⟩
  | .hbm, ⟨65, _⟩ => ⟨S_, .f32⟩
  | .hbm, ⟨66, _⟩ => ⟨S16384, .f32⟩
  | .hbm, ⟨67, _⟩ => ⟨S_, .f32⟩
  | .hbm, ⟨68, _⟩ => ⟨S16384, .f32⟩
  | .hbm, ⟨69, _⟩ => ⟨S16384, .f32⟩
  | _, _ => ⟨S4096x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_call1_cst : Ref sig .tc := ⟨.hbm, 26, rfl⟩
abbrev main_call1_v0 : Ref sig .tc := ⟨.hbm, 27, rfl⟩
abbrev main_call1_cst_0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_cst_1 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_v1 : Ref sig .tc := ⟨.hbm, 40, rfl⟩
abbrev main_v2 : Ref sig .tc := ⟨.hbm, 41, rfl⟩
abbrev main_call2_c : Ref sig .tc := ⟨.hbm, 42, rfl⟩
abbrev main_call2_v0 : Ref sig .tc := ⟨.hbm, 43, rfl⟩
abbrev main_call2_v1 : Ref sig .tc := ⟨.hbm, 44, rfl⟩
abbrev main_call2_c_0 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_v5 : Ref sig .tc := ⟨.hbm, 49, rfl⟩
abbrev main_call2_c_1 : Ref sig .tc := ⟨.hbm, 50, rfl⟩
abbrev main_call2_c_2 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_v9 : Ref sig .tc := ⟨.hbm, 55, rfl⟩
abbrev main_call2_v10 : Ref sig .tc := ⟨.hbm, 56, rfl⟩
abbrev main_call2_v11 : Ref sig .tc := ⟨.hbm, 57, rfl⟩
abbrev main_call2_c_3 : Ref sig .tc := ⟨.hbm, 58, rfl⟩
abbrev main_call2_v12 : Ref sig .tc := ⟨.hbm, 59, rfl⟩
abbrev main_call2_v13 : Ref sig .tc := ⟨.hbm, 60, rfl⟩
abbrev main_call2_cst : Ref sig .tc := ⟨.hbm, 61, rfl⟩
abbrev main_call2_v14 : Ref sig .tc := ⟨.hbm, 62, rfl⟩
abbrev main_v3 : Ref sig .tc := ⟨.hbm, 63, rfl⟩
abbrev main_v4 : Ref sig .tc := ⟨.hbm, 64, rfl⟩
abbrev main_cst : Ref sig .tc := ⟨.hbm, 65, rfl⟩
abbrev main_v5 : Ref sig .tc := ⟨.hbm, 66, rfl⟩
abbrev main_cst_0 : Ref sig .tc := ⟨.hbm, 67, rfl⟩
abbrev main_v6 : Ref sig .tc := ⟨.hbm, 68, rfl⟩
abbrev main_v7 : Ref sig .tc := ⟨.hbm, 69, rfl⟩

abbrev nD : Nat := 1
abbrev τ : Topo := Topo.v7x

variable {F : FTy → Type} [FloatOps F]
-- ==== Proof.Values.lean ====
/-
  What the kernel computes, over any float interpretation `F`: one lookup of the table, the average of a batch row's 32
  lookups as the kernel adds them up, and the average of the lane `k` of a tile's block. Nothing here is about the machine.
-/
module

public import proofs.«01_k».proof.Proof.Gen.KernelIdeal
public import proofs.«01_k».proof.Proof.Gen.KernelIdeal.Skeleton

@[expose] public section

noncomputable section

namespace Cert.Proof.Lookup

open Cert.KernelIdeal Cert.KernelIdeal.Gen

open Idealize.ShloMosaic Idealize.SL.Sem

variable {F : FTy → Type} [FloatOps F]

/-- Where the table holds the entry of token `a` at position `p`: word `4096 a + p`. -/
def slot (a p : BitVec 32) : BitVec 32 := IntOp.addi (IntOp.muli a 4096#32) p

/-- The table's entry at word `w`, `w` reduced below the table's length so that the entry is there for any word. -/
def entry (T : Vec F S81920 .f32) (w : BitVec 32) : F .f32 :=
  T fun a => ⟨w.toNat % 81920, Nat.lt_of_lt_of_eq (Nat.mod_lt _ (by decide)) (by rw [Subsingleton.elim a 0]; rfl)⟩

/-- The running total of a row's entries after its first `n`, from zero, in order. -/
def total (T : Vec F S81920 .f32) (a p : ℕ → BitVec 32) : ℕ → F .f32
  | 0 => Scalar.ofBits .f32 0x00000000#32
  | n + 1 => FloatOps.addf (total T a p n) (entry T (slot (a n) (p n)))

/-- The row's average: the total of its 32 entries, times 1/32. -/
def mean (T : Vec F S81920 .f32) (a p : ℕ → BitVec 32) : F .f32 :=
  FloatOps.mulf (total T a p 32) (Scalar.ofBits .f32 0x3D000000#32)

/-- The index of row `m` and column `k` in an array of 32 rows of `n`. -/
def at32 {n : ℕ} (m : ℕ) (k : Fin n) : (⟨2, ![32, n]⟩ : Shape).Idx :=
  fun | 0 => ⟨m % 32, Nat.mod_lt _ (by decide)⟩ | 1 => k

/-- The averages of the columns of two arrays of 32 rows of `n`: the tokens `A` and the positions `P`. -/
def means {n : ℕ} (T : Vec F S81920 .f32) (A P : (⟨2, ![32, n]⟩ : Shape).Idx → BitVec 32) (k : Fin n) : F .f32 :=
  mean T (fun m => A (at32 m k)) (fun m => P (at32 m k))

/-- Equal columns have equal averages. -/
theorem means_congr {n n' : ℕ} (T : Vec F S81920 .f32) {A P : (⟨2, ![32, n]⟩ : Shape).Idx → BitVec 32}
    {A' P' : (⟨2, ![32, n']⟩ : Shape).Idx → BitVec 32} {k : Fin n} {k' : Fin n'}
    (hA : ∀ m, A (at32 m k) = A' (at32 m k')) (hP : ∀ m, P (at32 m k) = P' (at32 m k')) :
    means T A P k = means T A' P' k' := by
  unfold means; rw [funext hA, funext hP]

/-- Every token below 20 and every position below 4096, as words. -/
def InRange {n : ℕ} (A P : (⟨2, ![32, n]⟩ : Shape).Idx → BitVec 32) : Prop :=
  (∀ x, (A x).toNat < 20) ∧ ∀ x, (P x).toNat < 4096

/-- A token and a position in range name a word inside the table. -/
theorem slot_lt {a p : BitVec 32} (ha : a.toNat < 20) (hp : p.toNat < 4096) : (slot a p).toNat < 81920 := by
  unfold slot IntOp.addi IntOp.muli
  have h1 : (a * 4096#32).toNat = a.toNat * 4096 := by
    rw [BitVec.toNat_mul]; exact Nat.mod_eq_of_lt (by simp only [BitVec.toNat_ofNat]; omega)
  have h2 : (a * 4096#32 + p).toNat = a.toNat * 4096 + p.toNat := by
    rw [BitVec.toNat_add, h1]; exact Nat.mod_eq_of_lt (by omega)
  omega

/-- The word itself, when in range: `4096 a + p`. -/
theorem slot_toNat {a p : BitVec 32} (ha : a.toNat < 20) (hp : p.toNat < 4096) : (slot a p).toNat = a.toNat * 4096 + p.toNat := by
  unfold slot IntOp.addi IntOp.muli
  have h1 : (a * 4096#32).toNat = a.toNat * 4096 := by
    rw [BitVec.toNat_mul]; exact Nat.mod_eq_of_lt (by simp only [BitVec.toNat_ofNat]; omega)
  rw [BitVec.toNat_add, h1]; exact Nat.mod_eq_of_lt (by omega)

end Cert.Proof.Lookup

end
-- ==== Proof.Base.lean ====
/-
  The launch of the lookup kernel as the library's launch theorem sees it: the configuration, the resource algebra, the
  arrays with what they hold when the SparseCores start, the barrier that carries the table's chunks between the tiles of a
  SparseCore, and what each handshake hands over.

  Tile `(c, s)` has batch rows `512 (2 s + c)` to `512 (2 s + c) + 511`. Its SparseCore's shared scratch receives the table
  in sixteen chunks of 5120 words, chunk `s` from tile `s`; at the barrier every tile hands every tile a share of its chunk,
  so that a tile leaves the barrier with a share of the whole shared table.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Values

@[expose] public section

noncomputable section

namespace Cert.Proof.Lookup

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The configuration -/

/-- The labels below the SparseCore calls: the one pipelined TensorCore call and the bodies. -/
abbrev ΛP : Labels := Pipeline.Sig Λ₀ (Fin 1) fun p => (pcfgs (F := F) p).Adm
abbrev K : SparseCore.Cfg τ sig (ΛP (F := F)) 1 := sc (F := F)
/-- The call runs on 16 tiles of a SparseCore. -/
theorem nSub_zero : (K (F := F)).nSub 0 = 16 := rfl
/-- The call runs on two SparseCores. -/
theorem nCore_zero : (K (F := F)).nCore 0 = 2 := rfl
/-- The SparseCore that runs the call's core `c`. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are distinct and not scoped, and no SparseCore owns a shared task buffer. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier's, the TensorCore call's, and the copies' counters -/

abbrev UH : Type := URounds (GSem nD τ sig) ℕ
abbrev UB : Type := URounds (GSem nD τ sig) ℕ
abbrev UP : Type := URounds (GSem nD τ sig) Unit
abbrev UU : Type := UH × (UB × (UP × Counters))

local notation "𝕄" => MT nD τ sig (HIx 1) (Elt F) ℕ UU ℕ

abbrev EH : Emb UH (MT nD τ sig (HIx 1) (Elt F) ℕ UU ℕ) := embL
/-- Where the barrier's rounds sit. -/
def EB : Emb UB (MT nD τ sig (HIx 1) (Elt F) ℕ UU ℕ) :=
  ((Emb.inl : Emb UB (UB × (UP × Counters))).trans (Emb.inr : Emb (UB × (UP × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance
/-- Where the TensorCore call's rounds sit. -/
def EP : Emb UP (MT nD τ sig (HIx 1) (Elt F) ℕ UU ℕ) :=
  (((Emb.inl : Emb UP (UP × Counters)).trans (Emb.inr : Emb (UP × Counters) (UB × (UP × Counters)))).trans (Emb.inr : Emb (UB × (UP × Counters)) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The arrays and what they hold -/

variable (m : (ℓ : Loc nD τ sig) → Buf (Elt F) ℓ) (ρ : Dev nD → PrngReg)

abbrev lgLoc (d : Dev nD) : Loc nD τ sig := (SparseCore.T d).loc main_arg0
abbrev psLoc (d : Dev nD) : Loc nD τ sig := (SparseCore.T d).loc main_arg1
abbrev aaLoc (d : Dev nD) : Loc nD τ sig := (SparseCore.T d).loc main_arg2
abbrev tblLoc (d : Dev nD) : Loc nD τ sig := (SparseCore.T d).loc main_v1
abbrev posLoc (d : Dev nD) : Loc nD τ sig := (SparseCore.T d).loc main_v2
abbrev tokLoc (d : Dev nD) : Loc nD τ sig := (SparseCore.T d).loc main_v3
abbrev outLoc (d : Dev nD) : Loc nD τ sig := (SparseCore.T d).loc main_v4

/-- SparseCore `c`'s shared scratch, as every tile of it addresses it. -/
abbrev shRef (c : Fin τ.nSC) : DevRef τ sig := ⟨.shared, ⟨0, by decide⟩, c⟩
abbrev shLoc (d : Dev nD) (c : Fin τ.nSC) : Loc nD τ sig := (d, shRef c)

/-- The positions, one row per place in a sequence and one column per batch row. -/
def posOf (d : Dev nD) : Vec F S32x16384 .i32 := transpose S32x16384 [1, 0] (m (psLoc d)) transposes_S16384x32_S32x16384_1_0
/-- The tokens, likewise. -/
def tokOf (d : Dev nD) : Vec F S32x16384 .i32 := transpose S32x16384 [1, 0] (m (aaLoc d)) transposes_S16384x32_S32x16384_1_0

variable [FloatOps F]

/-- The table of log-probabilities, token by token: the TensorCore call's value at the transposed logits. -/
def tableOf (d : Dev nD) : Vec F S81920 .f32 := k0_pay1 (transpose S20x4096 [1, 0] (m (lgLoc d)) transposes_S4096x20_S20x4096_1_0)
/-- The kernel's result: per batch row, the average of its lookups. -/
def outOf (d : Dev nD) : Vec F S16384 .f32 := fun x => means (tableOf m d) (tokOf m d) (posOf m d) (x 0)

/-- Every token and position the kernel reads is in range. -/
def PreOK : Prop := ∀ d : Dev nD, InRange (tokOf m d) (posOf m d)

/-! ## The tiles' parts -/

abbrev tblV : Memref sig Kind.scVector Space.hbm S81920 EltTy.f32 := Memref.whole main_v1_scv
abbrev posV : Memref sig Kind.scVector Space.hbm S32x16384 EltTy.i32 := Memref.whole main_v2_scv
abbrev tokV : Memref sig Kind.scVector Space.hbm S32x16384 EltTy.i32 := Memref.whole main_v3_scv
abbrev outV : Memref sig Kind.scVector Space.hbm S16384 EltTy.f32 := Memref.whole main_v4_scv
abbrev shV : Memref sig Kind.scVector Space.shared S81920 EltTy.f32 := Memref.whole cc1_scratch4

/-- The table divides into sixteen chunks. -/
theorem hchunk : 16 ∣ S81920.size 0 := ⟨5120, rfl⟩
/-- The result divides into 32 blocks. -/
theorem hblock : 32 ∣ S16384.size 0 := ⟨512, rfl⟩
/-- Chunk `j` of the table: words `5120 j` to `5120 j + 5119`. -/
abbrev chunk (j : Fin 16) : Rect S81920 := Rect.part (s := S81920) (a₀ := 0) hchunk j
abbrev chunkSet (j : Fin 16) : Finset S81920.Idx := ((shV).view.slice (chunk j)).set
/-- Block `w` of the result: batch rows `512 w` to `512 w + 511`. -/
abbrev block (w : Fin 32) : Rect S16384 := Rect.part (s := S16384) (a₀ := 0) hblock w
abbrev blockSet (w : Fin 32) : Finset S16384.Idx := ((outV).view.slice (block w)).set

/-- A SparseCore has 16 tiles. -/
theorem nSub_eq : τ.nSub = 16 := rfl

/-- The share of the shared table that tile `j` takes from the barrier: the whole is dealt among the sixteen. -/
abbrev shq (j : Fin 16) : PosShare TreeShare := Transfers.dealOf fullShare (Finset.univ : Finset (Fin 16)) j
/-- The share of each input array that the tile of block `w` reads at: the whole is dealt among the thirty-two. -/
abbrev inq (w : Fin 32) : PosShare TreeShare := Transfers.dealOf fullShare (Finset.univ : Finset (Fin 32)) w

/-- The block of the tile `(c, s)`: `2 s + c`. -/
def wid (c : Fin 2) (s : Fin 16) : Fin 32 := ⟨2 * s.val + c.val, by have := c.isLt; have := s.isLt; omega⟩

/-! ## The barrier cells -/

/-- Tile `(c, j)`'s barrier semaphore of device `d`. -/
abbrev bcell (d : Dev nD) (c : Fin τ.nSC) (j : Fin τ.nSub) : GSem nD τ sig := (V d c j, .reg sc_bar0)

omit [FloatOps F] in
/-- The barrier's semaphore is not the launch's `go`. -/
theorem sc_bar0_ne_go : (sc_bar0 : Sem sig) ≠ sc_go := by decide

/-- The cell is a tile's barrier semaphore. -/
def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- Chunk `i` of the shared scratch of SparseCore `c`, at share `q`, holding the table's. -/
abbrev chunkAt (d : Dev nD) (c : Fin τ.nSC) (q : PosShare TreeShare) (i : Fin 16) : sProp 𝕄 := shLoc d c ↦[chunkSet i]{q} tableOf m d

set_option backward.proofsInPublic true in
/-- What tile `n`'s unit in tile `j`'s round hands over: tile `j`'s share of chunk `n`, filled. -/
def bPay (g : GSem nD τ sig) (n : ℕ) : sProp 𝕄 :=
  match g with
  | ((d, .scVector c j), _) => if h : n < 16 then chunkAt m d c (shq (Fin.cast nSub_eq j)) ⟨n, h⟩ else iprop(emp)
  | _ => iprop(emp)

/-- The barrier cells' schedule: one round on each, of one unit per tile of the SparseCore (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd m).payload g r n) := by
  show BI.Storable upEmb (bPay m g n)
  unfold bPay
  rcases g with ⟨⟨d, _ | c | ⟨c, i⟩⟩, sm⟩ <;> dsimp only <;> (repeat' split) <;> infer_instance

/-- The first round's duties at a tile's barrier cell: one of each tile. -/
theorem bRd_duties₀ (d : Dev nD) (c : Fin τ.nSC) (j : Fin τ.nSub) : (bRd m).duties (bcell d c j) 0 = (Finset.univ : Finset (Fin τ.nSub)).image Fin.val := by
  simp [bRd, isBar]
/-- Later rounds have no duties. -/
theorem bRd_duties_succ (g : GSem nD τ sig) (r : ℕ) (hr : 1 ≤ r) : (bRd m).duties g r = ∅ := if_neg fun h => absurd h.2 (Nat.ne_of_gt hr)
/-- Every tile has a duty in the first round. -/
theorem bRd_mem₀ (d : Dev nD) (c : Fin τ.nSC) (j i : Fin τ.nSub) : i.val ∈ (bRd m).duties (bcell d c j) 0 := by
  rw [bRd_duties₀]; exact Finset.mem_image_of_mem _ (Finset.mem_univ i)
/-- The first round's payments come to one unit of each tile. -/
theorem bRd_expect (d : Dev nD) (c : Fin τ.nSC) (j : Fin τ.nSub) : 0 + grid1.bound 1 = (bRd m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What a tile of SparseCore `c` owes from the launch: a unit on every tile's barrier cell, at the call's index. -/
def oxV (d : Dev nD) (c : Fin τ.nSC) : CellTallies nD τ sig (HIx 1) := ∑ j : Fin (grid1.bound 1), tallyAt (bcell d c (j.castLE hsub1)) (some 0) 1

omit [FloatOps F] in
/-- A tile owes nothing at the level of no call. -/
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
/-- Only the barrier cells are owed, at the call's index. -/
theorem oxV_apply_pos {d : Dev nD} {c : Fin τ.nSC} {g : GSem nD τ sig} {ι : HIx 1} (h : 0 < oxV d c g ι) : ∃ j : Fin (grid1.bound 1), g = bcell d c (j.castLE hsub1) ∧ ι = some 0 := by
  by_contra hn
  refine absurd h (Nat.not_lt.2 (Nat.le_of_eq ?_))
  unfold oxV
  rw [Finset.sum_apply, Finsupp.finsetSum_apply]
  exact Finset.sum_eq_zero fun j _ => by rw [tallyAt_apply, if_neg fun e => hn ⟨j, e⟩]

/-- A tile's own cells for the barrier: every tile's cell invariant of its SparseCore and that each has reached round 0, its
    own position, its unit's token in every tile's round, and the credit for the sixteen units of its own round. -/
def bkit (d : Dev nD) (c : Fin τ.nSC) (i : Fin τ.nSub) : sProp 𝕄 :=
  iprop((∃ κ : GSem nD τ sig → ℕ, bigSep Finset.univ fun j : Fin (grid1.bound 1) =>
      cellInv EB (bRd m) (κ (bcell d c (j.castLE hsub1))) (bcell d c (j.castLE hsub1)))
    ∗ (bigSep Finset.univ fun j : Fin (grid1.bound 1) => dutyTok EB (bcell d c (j.castLE hsub1)) 0 i.val)
    ∗ (bigSep Finset.univ fun j : Fin (grid1.bound 1) => reached EB (bcell d c (j.castLE hsub1)) 0)
    ∗ atPos EB (bcell d c i) 0 ∅ 0
    ∗ cred (tallyAt (bcell d c i) (some 0) (grid1.bound 1)))

/-! ## What the handshakes carry -/

/-- A tile's reads of the three input arrays, each a share of the whole. -/
abbrev ins (d : Dev nD) (w : Fin 32) : sProp 𝕄 :=
  iprop((tblLoc d ↦{inq w} tableOf m d) ∗ (posLoc d ↦{inq w} posOf m d) ∗ tokLoc d ↦{inq w} tokOf m d)
/-- Block `w` of the result array, at some contents. -/
abbrev blkAny (d : Dev nD) (w : Fin 32) : sProp 𝕄 := iprop(∃ f : Buf (Elt F) (outLoc d), outLoc d ↦[blockSet w]{fullShare} f)
/-- Block `w` of the result array, computed. -/
abbrev blkOut (d : Dev nD) (w : Fin 32) : sProp 𝕄 := outLoc d ↦[blockSet w]{fullShare} outOf m d
/-- Chunk `j` of the shared scratch, at some contents. -/
abbrev chunkAny (d : Dev nD) (c : Fin τ.nSC) (j : Fin 16) : sProp 𝕄 := iprop(∃ f : Buf (Elt F) (shLoc d c), shLoc d c ↦[chunkSet j]{fullShare} f)
/-- Tile `j`'s share of the whole shared table. -/
abbrev shAll (d : Dev nD) (c : Fin τ.nSC) (j : Fin 16) : sProp 𝕄 := shLoc d c ↦{shq j} tableOf m d

/-- The block of the call's task `(c, i)`. -/
abbrev widOf (c : Fin ((K (F := F)).nCore 0)) (i : Fin ((K (F := F)).nSub 0)) : Fin 32 := wid (Fin.cast nCore_zero c) (Fin.cast nSub_zero i)

set_option backward.proofsInPublic true in
/-- The call gives each core its tiles' reads and blocks; each tile is handed its own and its chunk of the shared scratch, and
    brings back its block computed, its share of the shared table, and its barrier semaphore at zero. -/
def P : (K (F := F)).Pay (nD := nD) (Val := Elt F) (Name := ℕ) (U := UU) where
  st := fun q d c => match q with
    | 0 => bigSep Finset.univ fun i : Fin ((K (F := F)).nSub 0) => iprop(ins m d (widOf c i) ∗ blkAny d (widOf c i))
  dn := fun q d c => match q with
    | 0 => bigSep Finset.univ fun i : Fin ((K (F := F)).nSub 0) => iprop(blkOut m d (widOf c i) ∗ semVal (bcell d (coreOf c) ((K (F := F)).sub 0 i)) 0)
  go := fun q d c i => match q with
    | 0 => iprop((ins m d (widOf c i) ∗ blkAny d (widOf c i)) ∗ chunkAny d (coreOf c) (Fin.cast nSub_zero i))
  td := fun q d c i => match q with
    | 0 => iprop((blkOut m d (widOf c i) ∗ semVal (bcell d (coreOf c) ((K (F := F)).sub 0 i)) 0) ∗ shAll m d (coreOf c) (Fin.cast nSub_zero i))
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · obtain ⟨j, rfl, rfl⟩ := oxV_apply_pos h
      rw [(K (F := F)).lev_V_reg d c (j.castLE hsub1) (show (sc_bar0 : Sem sig) ≠ (K (F := F)).go from sc_bar0_ne_go)]; exact ⟨le_rfl, by decide⟩
  ox_tc := fun _ _ => rfl
  ox_sc := fun _ _ _ h => absurd rfl h
  ox_vc := by
    intro q d c i _
    obtain rfl : q = 0 := Subsingleton.elim _ _
    exact ⟨rfl, c.isLt, i.isLt⟩

instance P_storable : (P m).IsStorable where
  st q d c := match q with
    | 0 => (inferInstance : BI.Storable (upEmb : UEmb _ 𝕄)
      (bigSep Finset.univ fun i : Fin ((K (F := F)).nSub 0) => iprop(ins m d (widOf c i) ∗ blkAny d (widOf c i))))
  dn q d c := match q with
    | 0 => (inferInstance : BI.Storable (upEmb : UEmb _ 𝕄)
      (bigSep Finset.univ fun i : Fin ((K (F := F)).nSub 0) => iprop(blkOut m d (widOf c i) ∗ semVal (bcell d (coreOf c) ((K (F := F)).sub 0 i)) 0)))
  go q d c i := match q with
    | 0 => (inferInstance : BI.Storable (upEmb : UEmb _ 𝕄) iprop((ins m d (widOf c i) ∗ blkAny d (widOf c i)) ∗ chunkAny d (coreOf c) (Fin.cast nSub_zero i)))
  td q d c i := match q with
    | 0 => (inferInstance : BI.Storable (upEmb : UEmb _ 𝕄)
      iprop((blkOut m d (widOf c i) ∗ semVal (bcell d (coreOf c) ((K (F := F)).sub 0 i)) 0) ∗ shAll m d (coreOf c) (Fin.cast nSub_zero i)))

end Cert.Proof.Lookup

end
-- ==== Proof.Trip.lean ====
/-
  One trip of a tile's loop: 32 times it reads 16 tokens and 16 positions from a row of its scratch and gathers the table at
  the words they name, adds the gathered up, and stores 1/32 of the total as 16 elements of its result scratch.
-/
module

public import proofs.«01_k».proof.Proof.Base
public import Idealize.ShloMosaic.Lib.Pipeline.Value

@[expose] public section

noncomputable section

namespace Cert.Proof.Lookup

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

abbrev tabV : Memref sig Kind.scVector Space.vmem S81920 EltTy.f32 := Memref.whole cc1_scratch0
abbrev psV : Memref sig Kind.scVector Space.vmem S32x512 EltTy.i32 := Memref.whole cc1_scratch1
abbrev tkV : Memref sig Kind.scVector Space.vmem S32x512 EltTy.i32 := Memref.whole cc1_scratch2
abbrev rsV : Memref sig Kind.scVector Space.vmem S512 EltTy.f32 := Memref.whole cc1_scratch3

variable (d : Dev nD) (L : grid1.Coords)

/-- The SparseCore and the subcore that run the tile of coordinates `L`. -/
abbrev cV (L : grid1.Coords) : Fin τ.nSC := (L 0).castLE hcore1
abbrev jV (L : grid1.Coords) : Fin τ.nSub := (L 1).castLE hsub1
/-- The thread of the tile. -/
abbrev thr : Thread nD τ := V d (cV L) (jV L)

/-- A tile's four scratch arrays: the table, the positions, the tokens, the results. -/
def scratch (T : Vec F S81920 .f32) (P A : Vec F S32x512 .i32) (f : Vec F S512 .f32) : sProp 𝕄 :=
  iprop(((tabV).view.loc (thr d L) ↦{fullShare} T) ∗ ((psV).view.loc (thr d L) ↦{fullShare} P)
    ∗ ((tkV).view.loc (thr d L) ↦{fullShare} A) ∗ ((rsV).view.loc (thr d L) ↦{fullShare} f))

/-- Sixteen words of an array of 32 rows of 512, from the place `off` on. -/
def readRow (off : Fin 2 → ℕ) (A : Vec F S32x512 .i32) : Vec F S1x16 .i32 := fun x =>
  A fun | 0 => ⟨(off 0 + (x 0).val) % 32, Nat.mod_lt _ (by decide)⟩ | 1 => ⟨(off 1 + (x 1).val) % 512, Nat.mod_lt _ (by decide)⟩

/-- What a load of sixteen words of one row reads. -/
theorem readAt_row (off : Fin 2 → ℕ) (inb : ∀ a, off a + S1x16.size a ≤ S32x512.size a) (A : Vec F S32x512 .i32) :
    (tkV).view.readAt (Elt F) (Rect.unit (s := S32x512) off S1x16.size inb).toLoadRect A = readRow off A := by
  funext x
  refine congrArg A (funext fun a => Fin.ext ?_)
  match a with
  | 0 =>
    have h : (x 0).val < 1 := (x 0).isLt
    have h' : off 0 + 1 ≤ 32 := inb 0
    show off 0 + 1 * (x 0).val = (off 0 + (x 0).val) % 32
    rw [one_mul, Nat.mod_eq_of_lt (by omega)]
  | 1 =>
    have h : (x 1).val < 16 := (x 1).isLt
    have h' : off 1 + 16 ≤ 512 := inb 1
    show off 1 + 1 * (x 1).val = (off 1 + (x 1).val) % 512
    rw [one_mul, Nat.mod_eq_of_lt (by omega)]

variable {d L}
variable {T : Vec F S81920 .f32} {P A : Vec F S32x512 .i32} {f : Vec F S512 .f32}

/-- What runs on the tile. -/
abbrev runs (d : Dev nD) (L : grid1.Coords) {β : Type} (p : Prog (TpuEff nD τ sig (Elt F) Λ₀ (thr d L).2) β) (Q : β → sProp 𝕄) : sProp 𝕄 :=
  wp frame (wpE (defs₀ (F := F)) 𝒱₀ (thr d L) none) Set.univ p Q
/-- A program of the tile. -/
local notation "ℙ" => Prog (TpuEff nD τ sig (Elt F) Λ₀ (Proc.scVector (cV L) (jV L)))

/-- A load of sixteen tokens. -/
theorem step_tok {β : Type} {Q : β → sProp 𝕄} (off : Fin 2 → ℕ) (inb : ∀ a, off a + S1x16.size a ≤ S32x512.size a)
    {hl : (tkV).view.LoadsAt (Rect.unit (s := S32x512) off S1x16.size inb).toLoadRect} {k : Vec F S1x16 .i32 → ℙ β}
    (h : scratch d L T P A f ⊢ runs d L (k (readRow off A)) Q) :
    scratch d L T P A f ⊢ runs d L (Prog.lift (.load tkV (Rect.unit (s := S32x512) off S1x16.size inb).toLoadRect hl) >>= k) Q := by
  rw [show (Prog.lift (.load tkV (Rect.unit (s := S32x512) off S1x16.size inb).toLoadRect hl) >>= k : ℙ β) = .op (.load tkV (Rect.unit (s := S32x512) off S1x16.size inb).toLoadRect hl) k from rfl]
  unfold scratch at h ⊢
  iintro ⟨HT, HP, HA, Hf⟩
  iapply (wp_load 𝒱₀ (thr d L) none Set.univ (m := tkV) (S := Finset.univ) (q := fullShare) (Finset.subset_univ _)) $$ HA
  iintro HA
  rw [readAt_row]
  iapply h
  isplitl [HT]; · iexact HT
  isplitl [HP]; · iexact HP
  isplitl [HA]; · iexact HA
  iexact Hf

/-- A load of sixteen positions. -/
theorem step_pos {β : Type} {Q : β → sProp 𝕄} (off : Fin 2 → ℕ) (inb : ∀ a, off a + S1x16.size a ≤ S32x512.size a)
    {hl : (psV).view.LoadsAt (Rect.unit (s := S32x512) off S1x16.size inb).toLoadRect} {k : Vec F S1x16 .i32 → ℙ β}
    (h : scratch d L T P A f ⊢ runs d L (k (readRow off P)) Q) :
    scratch d L T P A f ⊢ runs d L (Prog.lift (.load psV (Rect.unit (s := S32x512) off S1x16.size inb).toLoadRect hl) >>= k) Q := by
  rw [show (Prog.lift (.load psV (Rect.unit (s := S32x512) off S1x16.size inb).toLoadRect hl) >>= k : ℙ β) = .op (.load psV (Rect.unit (s := S32x512) off S1x16.size inb).toLoadRect hl) k from rfl]
  unfold scratch at h ⊢
  iintro ⟨HT, HP, HA, Hf⟩
  iapply (wp_load 𝒱₀ (thr d L) none Set.univ (m := psV) (S := Finset.univ) (q := fullShare) (Finset.subset_univ _)) $$ HP
  iintro HP
  rw [show (psV).view.readAt (Elt F) (Rect.unit (s := S32x512) off S1x16.size inb).toLoadRect P = readRow off P from readAt_row off inb P]
  iapply h
  isplitl [HT]; · iexact HT
  isplitl [HP]; · iexact HP
  isplitl [HA]; · iexact HA
  iexact Hf

/-- The machine's assumption that a lane's word is inside the table: it is, being `4096 a + p` with `a` and `p` in range. -/
theorem step_inb {β : Type} {Q : β → sProp 𝕄} {v : IVec S16 32} (hv : ∀ x, (v x).toNat < 81920) {R : sProp 𝕄}
    {dec : Decidable (∀ a x, ((![v] : Fin 1 → IVec S16 32) a x).toNat < S81920.size a)}
    {k : PLift (∀ a x, ((![v] : Fin 1 → IVec S16 32) a x).toNat < S81920.size a) → ℙ β}
    (h : ∀ w, R ⊢ runs d L (k w) Q) :
    R ⊢ runs d L (Prog.lift (TpuEff.assume (∀ a x, ((![v] : Fin 1 → IVec S16 32) a x).toNat < S81920.size a) dec) >>= k) Q := by
  have hc : ∀ a x, ((![v] : Fin 1 → IVec S16 32) a x).toNat < S81920.size a := fun a x => by
    obtain rfl : a = 0 := Subsingleton.elim _ _
    exact hv x
  exact (h ⟨hc⟩).trans (wp_assume 𝒱₀ (thr d L) none Set.univ hc)

/-- What the gather of the table at sixteen words reads. -/
def gathered (T : Vec F S81920 .f32) (v : IVec S16 32) : Vec F S16 .f32 := fun x => entry T (v x)

/-- The gather of the table at sixteen words. -/
theorem step_gat {β : Type} {Q : β → sProp 𝕄} {v : IVec S16 32} {hv : ∀ a x, ((![v] : Fin 1 → IVec S16 32) a x).toNat < S81920.size a}
    {hl : (tabV).view.Loads} {k : Vec F S16 .f32 → ℙ β}
    (h : scratch d L T P A f ⊢ runs d L (k (gathered T v)) Q) :
    scratch d L T P A f ⊢ runs d L (SparseCore.vectorLoadIdx tabV ![v] hv hl >>= k) Q := by
  have hg : loadIdx (((tabV).access (.whole S81920)).read (Elt F) T) ![v] hv = gathered T v := by
    funext x
    refine congrArg T (funext fun a => Fin.ext ?_)
    obtain rfl : a = 0 := Fin.ext (Nat.lt_one_iff.mp a.isLt)
    have h0 : (v x).toNat < 81920 := hv 0 x
    show 0 + 1 * (v x).toNat = (v x).toNat % 81920
    rw [Nat.mod_eq_of_lt h0]; omega
  unfold scratch at h ⊢
  iintro ⟨HT, HP, HA, Hf⟩
  iapply (SparseCore.wp_vectorLoadIdx 𝒱₀ (thr d L) none Set.univ (base := tabV) (S := Finset.univ) (q := fullShare) (Finset.subset_univ _)) $$ HT
  iintro HT
  rw [hg]
  iapply h
  isplitl [HT]; · iexact HT
  isplitl [HP]; · iexact HP
  isplitl [HA]; · iexact HA
  iexact Hf

/-- The load of the result's sixteen elements, which the program does not use. -/
theorem step_old {β : Type} {Q : β → sProp 𝕄} {r : LoadRect S512} {hl : (rsV).view.LoadsAt r} {k : (r.shape.Idx → Elt F .f32) → ℙ β}
    (h : ∀ w, scratch d L T P A f ⊢ runs d L (k w) Q) :
    scratch d L T P A f ⊢ runs d L (Prog.lift (.load rsV r hl) >>= k) Q := by
  rw [show (Prog.lift (.load rsV r hl) >>= k : ℙ β) = .op (.load rsV r hl) k from rfl]
  have h' := fun w => h w
  unfold scratch at h' ⊢
  iintro ⟨HT, HP, HA, Hf⟩
  iapply (wp_load 𝒱₀ (thr d L) none Set.univ (m := rsV) (S := Finset.univ) (q := fullShare) (Finset.subset_univ _)) $$ Hf
  iintro Hf
  iapply (h' _)
  isplitl [HT]; · iexact HT
  isplitl [HP]; · iexact HP
  isplitl [HA]; · iexact HA
  iexact Hf

/-- Lane `n` of sixteen. -/
def lane (n : ℕ) (h : n < 16) : S16.Idx := fun | 0 => ⟨n, h⟩

/-- Sixteen elements from the place `off` on, replaced. -/
def putRow (off : Fin 1 → ℕ) (f : Vec F S512 .f32) (w : Vec F S16 .f32) : Vec F S512 .f32 := fun x =>
  if h : off 0 ≤ (x 0).val ∧ (x 0).val < off 0 + 16 then w (lane ((x 0).val - off 0) (by omega)) else f x

/-- The store of the result's sixteen elements. -/
theorem step_put {β : Type} {Q : β → sProp 𝕄} {off : Fin 1 → ℕ} {inb : ∀ a, off a + S16.size a ≤ S512.size a} {w : Vec F S16 .f32}
    {hx : ((rsV).access (Rect.unit (s := S512) off S16.size inb)).Stores Finset.univ} {hm : (Finset.univ : Finset (Rect.unit (s := S512) off S16.size inb).shape.Idx) = Finset.univ ∨ ∀ a, (Rect.unit (s := S512) off S16.size inb).stride a = 1}
    {k : PUnit → ℙ β}
    (h : scratch d L T P A (putRow off f w) ⊢ runs d L (k ⟨⟩) Q) :
    scratch d L T P A f ⊢ runs d L (Prog.lift (.store rsV (Rect.unit (s := S512) off S16.size inb) w Finset.univ hx hm) >>= k) Q := by
  have hw : ((rsV).access (Rect.unit (s := S512) off S16.size inb)).write (Elt F) f w Finset.univ = putRow off f w := by
    funext y
    by_cases hy : off 0 ≤ (y 0).val ∧ (y 0).val < off 0 + 16
    · have he : ((rsV).access (Rect.unit (s := S512) off S16.size inb)).emb (lane ((y 0).val - off 0) (by omega)) = y := by
        funext a
        refine Fin.ext ?_
        match a with
        | 0 => show off 0 + 1 * ((y 0).val - off 0) = (y 0).val; omega
      have hr := View.write_emb_of_mem (v := (rsV).access (Rect.unit (s := S512) off S16.size inb)) (Val := Elt F) f w
        (Finset.mem_univ (lane ((y 0).val - off 0) (by omega)))
      rw [he] at hr
      rw [hr]; unfold putRow; rw [dif_pos hy]; exact cast_eq _ _
    · rw [View.write_of_not_mem]
      · unfold putRow; rw [dif_neg hy]
      · intro hm
        rw [View.setOn_univ] at hm
        obtain ⟨x, -, hx⟩ := Finset.mem_map.mp hm
        have h0 : off 0 + 1 * (x 0).val = (y 0).val := congrArg (fun z => (z 0).val) hx
        have h1 : (x 0).val < 16 := (x 0).isLt
        exact hy ⟨by omega, by omega⟩
  rw [show (Prog.lift (.store rsV (Rect.unit (s := S512) off S16.size inb) w Finset.univ hx hm) >>= k : ℙ β) = .op (.store rsV (Rect.unit (s := S512) off S16.size inb) w Finset.univ hx hm) k from rfl]
  unfold scratch at h ⊢
  iintro ⟨HT, HP, HA, Hf⟩
  iapply (wp_store 𝒱₀ (thr d L) none Set.univ (m := rsV) (r := Rect.unit (s := S512) off S16.size inb) (w := w) (Mk := Finset.univ) (S := Finset.univ) (f := f) (Finset.subset_univ _)) $$ Hf
  iintro Hf
  rw [hw]
  iapply h
  isplitl [HT]; · iexact HT
  isplitl [HP]; · iexact HP
  isplitl [HA]; · iexact HA
  iexact Hf

/-- A part of the program, then the rest. -/
theorem step_part {α β : Type} {Q : β → sProp 𝕄} {R : sProp 𝕄} {p : ℙ α} {k : α → ℙ β} (h : R ⊢ runs d L p (fun a => runs d L (k a) Q)) : R ⊢ runs d L (p >>= k) Q :=
  h.trans (Entails.of_eq (wp_bind _ _ _ p k Q).symm)

/-- The end of a part. -/
theorem step_end {β : Type} {Q : β → sProp 𝕄} {R : sProp 𝕄} {a : β} (h : R ⊢ Q a) : R ⊢ runs d L (pure a : ℙ β) Q :=
  h.trans fupd_intro

/-- The result scratch after a trip: 16 averages at the trip's place. -/
def afterTrip (T : Vec F S81920 .f32) (P A : Vec F S32x512 .i32) (t : Fin k1_t1_loop.trips) (f : Vec F S512 .f32) : Vec F S512 .f32 :=
  putRow (k1_off35 t) f fun x => means T A P ⟨(16 * t.val + (x 0).val) % 512, Nat.mod_lt _ (by decide)⟩

/-- The running totals of the sixteen columns at the trip's place, after `n` lookups. -/
def totals (T : Vec F S81920 .f32) (P A : Vec F S32x512 .i32) (t n : ℕ) : FVec F S16 .f32 := fun x =>
  total T (fun m => A (at32 m ⟨(16 * t + (x 0).val) % 512, Nat.mod_lt _ (by decide)⟩)) (fun m => P (at32 m ⟨(16 * t + (x 0).val) % 512, Nat.mod_lt _ (by decide)⟩)) n

/-- The word that lane `x` of a slice of one row holds. -/
theorem readRow_lane {off : Fin 2 → ℕ} {n t : ℕ} (h : off = ![n, 16 * t]) (A : Vec F S32x512 .i32) (x : S16.Idx) :
    shapeCast S16 (readRow off A) shapeCasts_S1x16_S16 x = A (at32 n ⟨(16 * t + (x 0).val) % 512, Nat.mod_lt _ (by decide)⟩) := by
  subst h
  refine (shapeCast_dropUnit_apply ![16] (readRow ![n, 16 * t] A) shapeCasts_S1x16_S16 x).trans ?_
  refine congrArg A (funext fun a => Fin.ext ?_)
  match a with
  | 0 => rfl
  | 1 => rfl

/-- One more lookup: the next row's, at the words `4096 a + p`. -/
theorem totals_step {off : Fin 2 → ℕ} {n t : ℕ} (h : off = ![n, 16 * t]) :
    addf (totals T P A t n) (gathered T (addi (muli (shapeCast S16 (readRow off A) shapeCasts_S1x16_S16) (broadcast S16 4096#32))
      (shapeCast S16 (readRow off P) shapeCasts_S1x16_S16))) = totals T P A t (n + 1) := by
  funext x
  have hA := readRow_lane h A x
  have hP := readRow_lane h P x
  show FloatOps.addf (totals T P A t n x) (entry T (slot (shapeCast S16 (readRow off A) shapeCasts_S1x16_S16 x) (shapeCast S16 (readRow off P) shapeCasts_S1x16_S16 x))) = _
  rw [hA, hP]; rfl

set_option maxHeartbeats 4000000 in
set_option maxRecDepth 4096 in
/-- A trip puts the sixteen averages at its place. -/
theorem trip (hin : InRange A P) (arg2 : Memref sig .scVector .hbm S81920 .f32) (harg2 : arg2.IsWhole) (arg3 : Memref sig .scVector .hbm S32x16384 .i32) (harg3 : arg3.IsWhole)
    (arg4 : Memref sig .scVector .hbm S32x16384 .i32) (harg4 : arg4.IsWhole) (arg5 : Memref sig .scVector .hbm S16384 .f32) (harg5 : arg5.IsWhole)
    (harg6 : (tabV).IsWhole) (harg7 : (psV).IsWhole) (harg8 : (tkV).IsWhole) (harg9 : (rsV).IsWhole)
    (arg10 : Memref sig .scVector .shared S81920 .f32) (harg10 : arg10.IsWhole) (arg11 arg12 r0 r1 r2 : DmaSems sig S_) (t : Fin k1_t1_loop.trips) (u : Unit) :
    scratch d L T P A f ⊢ runs d L (k1_t1_body L arg2 harg2 arg3 harg3 arg4 harg4 arg5 harg5 tabV harg6 psV harg7 tkV harg8 rsV harg9 arg10 harg10 arg11 arg12 r0 r1 r2 t u)
      (fun _ => scratch d L T P A (afterTrip T P A t f)) := by
  unfold k1_t1_body
  refine step_part ?_; rw [k1_part1_eq_skeleton]; unfold k1_part1_skel
  refine step_tok _ _ ?_; refine step_pos _ _ ?_; refine step_inb (fun x => slot_lt (hin.1 _) (hin.2 _)) (fun _ => ?_); refine step_gat ?_
  refine step_tok _ _ ?_; refine step_pos _ _ ?_; refine step_inb (fun x => slot_lt (hin.1 _) (hin.2 _)) (fun _ => ?_); refine step_gat ?_
  refine step_tok _ _ ?_; refine step_pos _ _ ?_; refine step_inb (fun x => slot_lt (hin.1 _) (hin.2 _)) (fun _ => ?_); refine step_gat ?_
  refine step_tok _ _ ?_
  refine step_end ?_; dsimp only
  refine step_part ?_; rw [k1_part2_eq_skeleton]; unfold k1_part2_skel
  refine step_pos _ _ ?_; refine step_inb (fun x => slot_lt (hin.1 _) (hin.2 _)) (fun _ => ?_); refine step_gat ?_
  refine step_tok _ _ ?_; refine step_pos _ _ ?_; refine step_inb (fun x => slot_lt (hin.1 _) (hin.2 _)) (fun _ => ?_); refine step_gat ?_
  refine step_tok _ _ ?_; refine step_pos _ _ ?_; refine step_inb (fun x => slot_lt (hin.1 _) (hin.2 _)) (fun _ => ?_); refine step_gat ?_
  refine step_tok _ _ ?_; refine step_pos _ _ ?_
  refine step_end ?_; dsimp only
  refine step_part ?_; rw [k1_part3_eq_skeleton]; unfold k1_part3_skel
  refine step_inb (fun x => slot_lt (hin.1 _) (hin.2 _)) (fun _ => ?_); refine step_gat ?_
  refine step_tok _ _ ?_; refine step_pos _ _ ?_; refine step_inb (fun x => slot_lt (hin.1 _) (hin.2 _)) (fun _ => ?_); refine step_gat ?_
  refine step_tok _ _ ?_; refine step_pos _ _ ?_; refine step_inb (fun x => slot_lt (hin.1 _) (hin.2 _)) (fun _ => ?_); refine step_gat ?_
  refine step_tok _ _ ?_; refine step_pos _ _ ?_; refine step_inb (fun x => slot_lt (hin.1 _) (hin.2 _)) (fun _ => ?_); refine step_gat ?_
  refine step_tok _ _ ?_
  refine step_end ?_; dsimp only
  refine step_part ?_; rw [k1_part4_eq_skeleton]; unfold k1_part4_skel
  refine step_pos _ _ ?_; refine step_inb (fun x => slot_lt (hin.1 _) (hin.2 _)) (fun _ => ?_); refine step_gat ?_
  refine step_tok _ _ ?_; refine step_pos _ _ ?_; refine step_inb (fun x => slot_lt (hin.1 _) (hin.2 _)) (fun _ => ?_); refine step_gat ?_
  refine step_tok _ _ ?_; refine step_pos _ _ ?_; refine step_inb (fun x => slot_lt (hin.1 _) (hin.2 _)) (fun _ => ?_); refine step_gat ?_
  refine step_tok _ _ ?_; refine step_pos _ _ ?_
  refine step_end ?_; dsimp only
  refine step_part ?_; rw [k1_part5_eq_skeleton]; unfold k1_part5_skel
  refine step_inb (fun x => slot_lt (hin.1 _) (hin.2 _)) (fun _ => ?_); refine step_gat ?_
  refine step_tok _ _ ?_; refine step_pos _ _ ?_; refine step_inb (fun x => slot_lt (hin.1 _) (hin.2 _)) (fun _ => ?_); refine step_gat ?_
  refine step_tok _ _ ?_; refine step_pos _ _ ?_; refine step_inb (fun x => slot_lt (hin.1 _) (hin.2 _)) (fun _ => ?_); refine step_gat ?_
  refine step_tok _ _ ?_; refine step_pos _ _ ?_; refine step_inb (fun x => slot_lt (hin.1 _) (hin.2 _)) (fun _ => ?_); refine step_gat ?_
  refine step_tok _ _ ?_
  refine step_end ?_; dsimp only
  refine step_part ?_; rw [k1_part6_eq_skeleton]; unfold k1_part6_skel
  refine step_pos _ _ ?_; refine step_inb (fun x => slot_lt (hin.1 _) (hin.2 _)) (fun _ => ?_); refine step_gat ?_
  refine step_tok _ _ ?_; refine step_pos _ _ ?_; refine step_inb (fun x => slot_lt (hin.1 _) (hin.2 _)) (fun _ => ?_); refine step_gat ?_
  refine step_tok _ _ ?_; refine step_pos _ _ ?_; refine step_inb (fun x => slot_lt (hin.1 _) (hin.2 _)) (fun _ => ?_); refine step_gat ?_
  refine step_tok _ _ ?_; refine step_pos _ _ ?_; refine step_inb (fun x => slot_lt (hin.1 _) (hin.2 _)) (fun _ => ?_)
  refine step_end ?_; dsimp only
  refine step_part ?_; rw [k1_part7_eq_skeleton]; unfold k1_part7_skel
  refine step_gat ?_
  refine step_tok _ _ ?_; refine step_pos _ _ ?_; refine step_inb (fun x => slot_lt (hin.1 _) (hin.2 _)) (fun _ => ?_); refine step_gat ?_
  refine step_tok _ _ ?_; refine step_pos _ _ ?_; refine step_inb (fun x => slot_lt (hin.1 _) (hin.2 _)) (fun _ => ?_); refine step_gat ?_
  refine step_tok _ _ ?_; refine step_pos _ _ ?_; refine step_inb (fun x => slot_lt (hin.1 _) (hin.2 _)) (fun _ => ?_); refine step_gat ?_
  refine step_tok _ _ ?_
  refine step_end ?_; dsimp only
  refine step_part ?_; rw [k1_part8_eq_skeleton]; unfold k1_part8_skel
  refine step_pos _ _ ?_; refine step_inb (fun x => slot_lt (hin.1 _) (hin.2 _)) (fun _ => ?_); refine step_gat ?_
  refine step_tok _ _ ?_; refine step_pos _ _ ?_; refine step_inb (fun x => slot_lt (hin.1 _) (hin.2 _)) (fun _ => ?_); refine step_gat ?_
  refine step_tok _ _ ?_; refine step_pos _ _ ?_; refine step_inb (fun x => slot_lt (hin.1 _) (hin.2 _)) (fun _ => ?_); refine step_gat ?_
  refine step_tok _ _ ?_; refine step_pos _ _ ?_; refine step_inb (fun x => slot_lt (hin.1 _) (hin.2 _)) (fun _ => ?_); refine step_gat ?_
  refine step_end ?_; dsimp only
  refine step_part ?_; rw [k1_part9_eq_skeleton]; unfold k1_part9_skel
  refine step_tok _ _ ?_; refine step_pos _ _ ?_; refine step_inb (fun x => slot_lt (hin.1 _) (hin.2 _)) (fun _ => ?_); refine step_gat ?_
  refine step_tok _ _ ?_; refine step_pos _ _ ?_; refine step_inb (fun x => slot_lt (hin.1 _) (hin.2 _)) (fun _ => ?_); refine step_gat ?_
  refine step_tok _ _ ?_; refine step_pos _ _ ?_; refine step_inb (fun x => slot_lt (hin.1 _) (hin.2 _)) (fun _ => ?_); refine step_gat ?_
  refine step_tok _ _ ?_
  refine step_end ?_; dsimp only
  refine step_pos _ _ ?_; refine step_inb (fun x => slot_lt (hin.1 _) (hin.2 _)) (fun _ => ?_); refine step_gat ?_
  refine step_old (fun _ => ?_)
  refine step_put ?_
  refine step_end (Entails.of_eq ?_)
  refine congrArg (fun w => scratch d L T P A (putRow (k1_off35 t) f w)) ?_
  dsimp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48]
  rw [show (broadcast S16 (Scalar.ofBits .f32 0x00000000#32) : FVec F S16 .f32) = totals T P A t.val 0 from rfl,
    totals_step (k1_off3_eq t), totals_step (k1_off4_eq t), totals_step (k1_off5_eq t), totals_step (k1_off6_eq t), totals_step (k1_off7_eq t), totals_step (k1_off8_eq t), totals_step (k1_off9_eq t), totals_step (k1_off10_eq t), totals_step (k1_off11_eq t), totals_step (k1_off12_eq t), totals_step (k1_off13_eq t), totals_step (k1_off14_eq t), totals_step (k1_off15_eq t), totals_step (k1_off16_eq t), totals_step (k1_off17_eq t), totals_step (k1_off18_eq t), totals_step (k1_off19_eq t), totals_step (k1_off20_eq t), totals_step (k1_off21_eq t), totals_step (k1_off22_eq t), totals_step (k1_off23_eq t), totals_step (k1_off24_eq t), totals_step (k1_off25_eq t), totals_step (k1_off26_eq t), totals_step (k1_off27_eq t), totals_step (k1_off28_eq t), totals_step (k1_off29_eq t), totals_step (k1_off30_eq t), totals_step (k1_off31_eq t), totals_step (k1_off32_eq t), totals_step (k1_off33_eq t), totals_step (k1_off34_eq t)]
  rfl

end Cert.Proof.Lookup

end
-- ==== Proof.Tile.lean ====
/-
  A tile's task: its columns of positions and tokens and its chunk of the table fetched, the barrier, the whole table
  fetched from the shared scratch, the loop over its batch rows, and its block of averages written out.
-/
module

public import proofs.«01_k».proof.Proof.Trip

@[expose] public section

noncomputable section

namespace Cert.Proof.Lookup

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (d : Dev nD) (L : grid1.Coords)

/-! ## The loop -/

/-- The result scratch holds the averages of its first `16 n` columns. -/
def Done (T : Vec F S81920 .f32) (P A : Vec F S32x512 .i32) (n : ℕ) (f : Vec F S512 .f32) : Prop :=
  ∀ x : S512.Idx, (x 0).val < 16 * n → f x = means T A P (x 0)

/-- A trip extends the averages by its sixteen. -/
theorem Done.step {T : Vec F S81920 .f32} {P A : Vec F S32x512 .i32} {f : Vec F S512 .f32} (t : Fin k1_t1_loop.trips) (h : Done T P A t.val f) :
    Done T P A (t.val + 1) (afterTrip T P A t f) := by
  intro x hx
  unfold afterTrip putRow
  have e : k1_off35 t 0 = 16 * t.val := congrFun (k1_off35_eq t) 0
  split
  · rename_i hy
    refine congrArg (means T A P) (Fin.ext ?_)
    have hx' : (x 0).val < 512 := (x 0).isLt
    show (16 * t.val + ((x 0).val - k1_off35 t 0)) % 512 = (x 0).val
    rw [e] at hy ⊢
    rw [Nat.mod_eq_of_lt (by omega)]; omega
  · rename_i hy
    rw [e] at hy
    exact h x (by omega)

/-- The loop makes 32 trips. -/
theorem trips_eq : k1_t1_loop.trips = 32 := by decide

/-- The loop's state after `n` trips. -/
def filled (T : Vec F S81920 .f32) (P A : Vec F S32x512 .i32) (n : ℕ) : sProp 𝕄 := iprop(∃ f, ⌜Done T P A n f⌝ ∗ scratch d L T P A f)

/-- A trip's effect on the loop's state. -/
theorem filled_step {T : Vec F S81920 .f32} {P A : Vec F S32x512 .i32} (t : Fin k1_t1_loop.trips) {p : Prog (TpuEff nD τ sig (Elt F) Λ₀ (Proc.scVector (cV L) (jV L))) Unit}
    (h : ∀ f, scratch d L T P A f ⊢ runs d L p (fun _ => scratch d L T P A (afterTrip T P A t f))) :
    filled d L T P A t.val ⊢ runs d L p (fun _ => filled d L T P A (t.val + 1)) := by
  unfold filled
  iintro ⟨%f, %hf, H⟩
  iapply wp_mono
  rotate_left
  · iapply (h f); iexact H
  · intro _
    iintro H
    iexists _; isplitr
    swap; · iexact H
    ipureintro; exact hf.step t

/-! ## The tile's scratch and semaphores -/

/-- The tile's copies' completion cells. -/
abbrev dcell (s : DmaSems sig S_) : GSem nD τ sig := (thr d L, .dma s.sem)

omit [FloatOps F] in
/-- A scoped copy semaphore's cell is among the tile's own. -/
theorem dcell_mem (s : DmaSems sig S_) (h : (SemLoc.dma s.sem : SemLoc sig).isScoped .scVector = true) : dcell d L s ∈ ownCells (thr d L) :=
  mem_ownCells.mpr ⟨rfl, h⟩
omit [FloatOps F] in
/-- Different copy semaphores have different cells. -/
theorem dcell_ne {s s' : DmaSems sig S_} (h : (SemLoc.dma s.sem : SemLoc sig) ≠ .dma s'.sem) : dcell d L s ≠ dcell d L s' :=
  fun e => h (congrArg Prod.snd e)

/-- The other semaphores of the tile. -/
abbrev otherCells : Finset (GSem nD τ sig) :=
  (((((ownCells (thr d L)).erase (dcell d L cc1_scratch5)).erase (dcell d L cc1_scratch6)).erase (dcell d L cc1_scoped0)).erase
    (dcell d L cc1_scoped1)).erase (dcell d L cc1_scoped2)

omit [FloatOps F] in
/-- The tile's semaphores: its five copies' and the others. -/
theorem ownSems0_V :
    (ownSems0 (thr d L) : sProp 𝕄)
      = iprop(semVal (dcell d L cc1_scratch5) 0 ∗ semVal (dcell d L cc1_scratch6) 0 ∗ semVal (dcell d L cc1_scoped0) 0
          ∗ semVal (dcell d L cc1_scoped1) 0 ∗ semVal (dcell d L cc1_scoped2) 0 ∗ bigSep (otherCells d L) fun g => semVal g 0) := by
  unfold SparseCore.Cfg.ownSems0
  have ne := fun (s s' : DmaSems sig S_) (h : (SemLoc.dma s.sem : SemLoc sig) ≠ .dma s'.sem) => dcell_ne d L h
  rw [SparseCore.bigSep_erase' (dcell_mem d L cc1_scratch5 (by decide)),
    SparseCore.bigSep_erase' (Finset.mem_erase.mpr ⟨dcell_ne d L (s := cc1_scratch6) (by decide), dcell_mem d L cc1_scratch6 (by decide)⟩),
    SparseCore.bigSep_erase' (Finset.mem_erase.mpr ⟨dcell_ne d L (s := cc1_scoped0) (by decide), Finset.mem_erase.mpr ⟨dcell_ne d L (by decide), dcell_mem d L cc1_scoped0 (by decide)⟩⟩),
    SparseCore.bigSep_erase' (Finset.mem_erase.mpr ⟨dcell_ne d L (s := cc1_scoped1) (by decide), Finset.mem_erase.mpr ⟨dcell_ne d L (by decide),
      Finset.mem_erase.mpr ⟨dcell_ne d L (by decide), dcell_mem d L cc1_scoped1 (by decide)⟩⟩⟩),
    SparseCore.bigSep_erase' (Finset.mem_erase.mpr ⟨dcell_ne d L (s := cc1_scoped2) (by decide), Finset.mem_erase.mpr ⟨dcell_ne d L (by decide),
      Finset.mem_erase.mpr ⟨dcell_ne d L (by decide), Finset.mem_erase.mpr ⟨dcell_ne d L (by decide), dcell_mem d L cc1_scoped2 (by decide)⟩⟩⟩⟩)]

/-- A scratch array of the tile. -/
abbrev sref (L : grid1.Coords) (r : Ref sig .scVector) : DevRef τ sig := (Proc.scVector (cV L) (jV L)).devRef r

omit [FloatOps F] in
/-- Different scratch buffers are different arrays. -/
theorem sref_ne {r r' : Ref sig .scVector} (h : r ≠ r') : sref L r ≠ sref L r' := fun e => h (Proc.devRef_injective _ e)

/-- The other scratch of the tile. -/
abbrev otherRefs : Finset (DevRef τ sig) :=
  ((((ownRefs (τ := τ) (.scVector (cV L) (jV L))).erase (sref L cc1_scratch0)).erase (sref L cc1_scratch1)).erase (sref L cc1_scratch2)).erase (sref L cc1_scratch3)

omit [FloatOps F] in
/-- The tile's scratch: the four arrays and the rest. -/
theorem ownBufs_V :
    (ownBufs (thr d L) : sProp 𝕄)
      = iprop((∃ f, (thr d L).loc cc1_scratch0 ↦{fullShare} f) ∗ (∃ f, (thr d L).loc cc1_scratch1 ↦{fullShare} f)
          ∗ (∃ f, (thr d L).loc cc1_scratch2 ↦{fullShare} f) ∗ (∃ f, (thr d L).loc cc1_scratch3 ↦{fullShare} f)
          ∗ bigSep (otherRefs L) fun b => iprop(∃ f, ((d, b) : Loc nD τ sig) ↦{fullShare} f)) := by
  unfold SparseCore.Cfg.ownBufs
  have mem : ∀ r : Ref sig .scVector, (sref L r).owner = .proc (.scVector (cV L) (jV L)) → sref L r ∈ ownRefs (τ := τ) (.scVector (cV L) (jV L)) :=
    fun r h => SparseCore.Cfg.mem_ownRefs_of_owner (p := Proc.scVector (cV L) (jV L)) (b := sref L r) h
  refine (SparseCore.bigSep_erase' (mem cc1_scratch0 rfl)).trans ?_
  rw [SparseCore.bigSep_erase' (Finset.mem_erase.mpr ⟨sref_ne L (r := cc1_scratch1) (by decide), mem cc1_scratch1 rfl⟩),
    SparseCore.bigSep_erase' (Finset.mem_erase.mpr ⟨sref_ne L (r := cc1_scratch2) (by decide), Finset.mem_erase.mpr ⟨sref_ne L (by decide), mem cc1_scratch2 rfl⟩⟩),
    SparseCore.bigSep_erase' (Finset.mem_erase.mpr ⟨sref_ne L (r := cc1_scratch3) (by decide), Finset.mem_erase.mpr ⟨sref_ne L (by decide),
      Finset.mem_erase.mpr ⟨sref_ne L (by decide), mem cc1_scratch3 rfl⟩⟩⟩)]

/-! ## The parts as the program slices them -/

omit [FloatOps F] in
/-- The grid has two SparseCores. -/
theorem bound_zero : grid1.bound 0 = 2 := rfl
omit [FloatOps F] in
/-- The grid has 16 tiles to a SparseCore. -/
theorem bound_one : grid1.bound 1 = 16 := rfl
/-- The tile's number on its SparseCore, and its block. -/
abbrev jL (L : grid1.Coords) : Fin 16 := Fin.cast bound_one (L 1)
abbrev wL (L : grid1.Coords) : Fin 32 := wid (Fin.cast bound_zero (L 0)) (jL L)

/-- The columns of positions and of tokens the tile fetches, its chunk of the table and of the shared scratch, and its block
    of the result, as the program slices them. -/
abbrev psK (L : grid1.Coords) : Memref sig .scVector .hbm S32x512 .i32 := (posV).slice (Rect.unit (s := S32x16384) (k1_off1 L) S32x512.size (k1_off1_inb L)) (fun _ => rfl)
abbrev tkK (L : grid1.Coords) : Memref sig .scVector .hbm S32x512 .i32 := (tokV).slice (Rect.unit (s := S32x16384) (k1_off1 L) S32x512.size (k1_off1_inb L)) (fun _ => rfl)
abbrev tbK (L : grid1.Coords) : Memref sig .scVector .hbm S5120 .f32 := (tblV).slice (Rect.unit (s := S81920) (k1_off2 L) S5120.size (k1_off2_inb L)) (fun _ => rfl)
abbrev shK (L : grid1.Coords) : Memref sig .scVector .shared S5120 .f32 := (shV).slice (Rect.unit (s := S81920) (k1_off2 L) S5120.size (k1_off2_inb L)) (fun _ => rfl)
abbrev outK (L : grid1.Coords) : Memref sig .scVector .hbm S512 .f32 := (outV).slice (Rect.unit (s := S16384) (k1_off36 L) S512.size (k1_off36_inb L)) (fun _ => rfl)

omit [FloatOps F] in
/-- Where a tile's chunk of the table starts. -/
theorem off2_zero : k1_off2 L 0 = 5120 * (L 1).val := congrFun (k1_off2_eq L) 0
omit [FloatOps F] in
/-- Where a tile's block of the result starts. -/
theorem off36_zero : k1_off36 L 0 = 1024 * (L 1).val + 512 * (L 0).val := congrFun (k1_off36_eq L) 0

omit [FloatOps F] in
/-- The tile's slice of the shared table is its chunk. -/
theorem set_shK : (shK L).view.set = chunkSet (jL L) := by
  refine (View.set_slice _ _).trans (Eq.trans (congrArg _ (Finset.ext fun x => ?_)) (View.set_slice _ _).symm)
  refine Rect.mem_set_unit.trans (Iff.trans ?_ Rect.mem_set_unit.symm)
  refine Fin.forall_fin_one.trans (Iff.trans ?_ Fin.forall_fin_one.symm)
  rw [off2_zero]
  show _ ↔ (L 1).val * 5120 ≤ _ ∧ _ < (L 1).val * 5120 + 5120
  rw [Nat.mul_comm (L 1).val]; rfl

omit [FloatOps F] in
/-- The tile's slice of the result is its block. -/
theorem set_outK : (outK L).view.set = blockSet (wL L) := by
  refine (View.set_slice _ _).trans (Eq.trans (congrArg _ (Finset.ext fun x => ?_)) (View.set_slice _ _).symm)
  refine Rect.mem_set_unit.trans (Iff.trans ?_ Rect.mem_set_unit.symm)
  refine Fin.forall_fin_one.trans (Iff.trans ?_ Fin.forall_fin_one.symm)
  rw [off36_zero]
  show _ ↔ (2 * (L 1).val + (L 0).val) * 512 ≤ _ ∧ _ < (2 * (L 1).val + (L 0).val) * 512 + 512
  rw [show (2 * (L 1).val + (L 0).val) * 512 = 1024 * (L 1).val + 512 * (L 0).val by omega]; rfl

/-! ## What the copies leave -/

/-- The columns of the tile's batch rows in an array of 16384 columns. -/
def cols (A : Vec F S32x16384 .i32) : Vec F S32x512 .i32 :=
  fun x => A (at32 (x 0).val ⟨1024 * (L 1).val + 512 * (L 0).val + (x 1).val, by
    have h0 : (L 0).val < 2 := (L 0).isLt
    have h1 : (L 1).val < 16 := (L 1).isLt
    have h2 : (x 1).val < 512 := (x 1).isLt
    omega⟩)

/-- A chunk copied in holds the table's words. -/
theorem chunk_filled (f : Buf (Elt F) (shLoc d (cV L))) (w : S5120.Idx → Elt F .f32) (hw : ∀ y, w y = tableOf m d ((shK L).view.emb y)) :
    ∀ x ∈ (shK L).view.set, (shK L).view.writes (Elt F) f [⟨Rect.whole S5120, w⟩] x = tableOf m d x := by
  intro x hx
  obtain ⟨y, -, rfl⟩ := Finset.mem_map.mp hx
  have h := View.read_writes_cons_emb (shK L).view f (Rect.whole S5120) w [] y
  rw [Rect.emb_whole_apply S5120 y, View.read_apply, cast_eq] at h
  exact h.trans (hw y)

/-- The columns copied in are the tile's. -/
theorem cols_read (f : Vec F S32x512 .i32) (A : Vec F S32x16384 .i32) :
    (psV).view.write (Elt F) f (ReadAs.same.apply ((psK L).view.read (Elt F) A)) Finset.univ = cols L A := by
  refine (View.write_whole_univ _ _ _).trans (funext fun x => congrArg A (funext fun a => Fin.ext ?_))
  have h0 : (x 0).val < 32 := (x 0).isLt
  match a with
  | 0 =>
    show k1_off1 L 0 + 1 * (x 0).val = (x 0).val % 32
    rw [show k1_off1 L 0 = 0 from congrFun (k1_off1_eq L) 0, Nat.mod_eq_of_lt h0]; omega
  | 1 =>
    show k1_off1 L 1 + 1 * (x 1).val = 1024 * (L 1).val + 512 * (L 0).val + (x 1).val
    rw [show k1_off1 L 1 = 1024 * (L 1).val + 512 * (L 0).val from congrFun (k1_off1_eq L) 1]; omega

/-- The tile's columns are in range when all are. -/
theorem cols_inRange (hpre : PreOK m) : InRange (cols L (tokOf m d)) (cols L (posOf m d)) :=
  ⟨fun _ => (hpre d).1 _, fun _ => (hpre d).2 _⟩

/-- The averages over the tile's columns are the result's words of its block. -/
theorem means_cols (T : Vec F S81920 .f32) (P A : Vec F S32x16384 .i32) (k : Fin 512) (n : Fin 16384)
    (h : n.val = 1024 * (L 1).val + 512 * (L 0).val + k.val) : means T (cols L A) (cols L P) k = means T A P n := by
  have e : ∀ (B : Vec F S32x16384 .i32) (i : ℕ), cols L B (at32 i k) = B (at32 i n) := fun B i =>
    congrArg B (funext fun a => Fin.ext (by
      match a with
      | 0 => exact Nat.mod_mod _ _
      | 1 => exact h.symm))
  unfold means
  rw [funext (e A), funext (e P)]

/-- The block written out holds the result's words. -/
theorem block_filled (f : Buf (Elt F) (outLoc d)) (g : Vec F S512 .f32) (hg : Done (tableOf m d) (cols L (posOf m d)) (cols L (tokOf m d)) 32 g) :
    ∀ x ∈ (outK L).view.set, (outK L).view.writes (Elt F) f [⟨Rect.whole S512, g⟩] x = outOf m d x := by
  intro x hx
  obtain ⟨y, -, rfl⟩ := Finset.mem_map.mp hx
  have h := View.read_writes_cons_emb (outK L).view f (Rect.whole S512) g [] y
  rw [Rect.emb_whole_apply S512 y, View.read_apply, cast_eq] at h
  refine h.trans ((hg y (y 0).isLt).trans (means_cols L _ _ _ _ _ ?_))
  show k1_off36 L 0 + 1 * (y 0).val = _
  rw [off36_zero]; omega

/-! ## The barrier's exchange -/

omit [FloatOps F] in
/-- A chunk's set of indices. -/
theorem chunkSet_eq (i : Fin 16) : chunkSet i = (chunk i).set := (View.set_slice _ _).trans Finset.map_refl
omit [FloatOps F] in
/-- Different chunks share no index. -/
theorem chunks_disjoint : ∀ i ∈ (Finset.univ : Finset (Fin 16)), ∀ j ∈ (Finset.univ : Finset (Fin 16)), i ≠ j → Disjoint (chunkSet i) (chunkSet j) :=
  fun i _ j _ h => by rw [chunkSet_eq, chunkSet_eq]; exact Rect.part_disjoint hchunk h
omit [FloatOps F] in
/-- The chunks make up the table. -/
theorem chunks_cover : (Finset.univ : Finset (Fin 16)).biUnion chunkSet = Finset.univ :=
  (Finset.biUnion_congr rfl fun i _ => chunkSet_eq i).trans (Rect.biUnion_part hchunk)

omit [FloatOps F] in
/-- The shared scratch is its sixteen chunks. -/
theorem sh_chunks (c : Fin τ.nSC) (q : PosShare TreeShare) (f : Buf (Elt F) (shLoc d c)) :
    (shLoc d c ↦{q} f : sProp 𝕄) = bigSep Finset.univ fun i : Fin 16 => shLoc d c ↦[chunkSet i]{q} f := by
  rw [← pointsTo_biUnion Finset.univ (ℓ := shLoc d c) chunkSet chunks_disjoint, chunks_cover]; try rfl

/-- A filled chunk, dealt, is what its tile's unit hands over in every tile's round. -/
theorem pays_intro : (shLoc d (cV L) ↦[chunkSet (jL L)]{fullShare} tableOf m d)
    ⊢ (bigSep Finset.univ fun j : Fin (grid1.bound 1) => (bRd m).payload (bcell d (cV L) (j.castLE hsub1)) 0 (jV L).val : sProp 𝕄) := by
  refine (Entails.of_eq (Transfers.pointsTo_deal (Finset.univ : Finset (Fin 16)) ⟨0, Finset.mem_univ _⟩ fullShare)).trans ?_
  refine Entails.of_eq (bigSep_congr fun j _ => ?_)
  show _ = bPay m (bcell d (cV L) (j.castLE hsub1)) (jV L).val
  unfold bPay; dsimp only
  rw [dif_pos (show (jV L).val < 16 from (L 1).isLt)]; rfl

/-- What its round collected is the tile's share of the whole table. -/
theorem pays_elim : (bigSep ((bRd m).duties (bcell d (cV L) (jV L)) 0 \ ∅) fun n => (bRd m).payload (bcell d (cV L) (jV L)) 0 n)
    ⊢ (shAll m d (cV L) (jL L) : sProp 𝕄) := by
  rw [Finset.sdiff_empty, bRd_duties₀, SparseCore.bigSep_image_of_injOn (fun a _ b _ h => Fin.ext h)]
  refine (Entails.of_eq (bigSep_congr fun i _ => ?_)).trans (Entails.of_eq (sh_chunks d (cV L) (shq (jL L)) (tableOf m d)).symm)
  show bPay m (bcell d (cV L) (jV L)) i.val = _
  unfold bPay; dsimp only
  rw [dif_pos (show i.val < 16 from i.isLt)]; rfl

set_option maxHeartbeats 4000000 in
/-- The task of the tile `(L 0, L 1)` of device `d`: it returns its block of the result computed, its share of the shared table,
    and its barrier semaphore at zero. -/
theorem tile_body (hpre : PreOK m) (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ ((ins m d (wL L) ∗ blkAny d (wL L)) ∗ chunkAny d (cV L) (jL L))
        ∗ scopedBufs (thr d L) ∗ scopedSems0 (thr d L) ∗ owes (thr d L) (O + oxV d (cV L)) W)
      ⊢ runs d L (cc1__sc_body L tblV (Memref.isWhole_whole _) posV (Memref.isWhole_whole _) tokV (Memref.isWhole_whole _) outV (Memref.isWhole_whole _)
            tabV (Memref.isWhole_whole _) psV (Memref.isWhole_whole _) tkV (Memref.isWhole_whole _) rsV (Memref.isWhole_whole _) shV (Memref.isWhole_whole _)
            cc1_scratch5 cc1_scratch6 cc1_scoped0 cc1_scoped1 cc1_scoped2)
          fun _ => iprop(((blkOut m d (wL L) ∗ semVal (bcell d (cV L) (jV L)) 0) ∗ shAll m d (cV L) (jL L))
            ∗ scopedBufs (thr d L) ∗ scopedSems0 (thr d L)
            ∗ ∃ W', ⌜∀ p ∈ W', p ∈ W ∨ p.2 = none ∨ p.2 = some (0 : Fin 1)⌝ ∗ owes (thr d L) O W') := by
  unfold runs
  simp only [cc1__sc_body_eq_skeleton]; unfold cc1__sc_body_skel
  rw [(K (F := F)).scopedBufs_V hF d (cV L) (jV L), SparseCore.Cfg.scopedSems0_V (Val := Elt F) d (cV L) (jV L), ownSems0_V, ownBufs_V]
  unfold bkit
  iintro ⟨#Hlv, ⟨⟨%κ, #Hinv⟩, Htoks, #Hrch, Hat, Hcred⟩, ⟨⟨⟨Htbl, Hpos, Htok⟩, ⟨%fo, Hout⟩⟩, ⟨%fsh, Hsh⟩⟩,
    ⟨⟨%ft, Ht⟩, ⟨%fp, Hp⟩, ⟨%fa, Ha⟩, ⟨%fr, Hr⟩, Hbufs⟩, ⟨HsP, HsA, Hs0, Hs1, Hs2, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (thr d L) (default : HIx 1) (O + oxV d (cV L)) from
    (K (F := F)).mayWaits_none (thr := thr d L) hO') $$ Hlv
  ihave Hmw2 := (show levAts (K (F := F)).L (K (F := F)).lev ⊢ Transfers.MayWaits (thr d L) (default : HIx 1) O from
    (K (F := F)).mayWaits_none (thr := thr d L) hO) $$ Hlv
  ihave Htbl' := (show (tblLoc d ↦{inq (wL L)} tableOf m d : sProp 𝕄) ⊢ (tblV).view.loc (thr d L) ↦{inq (wL L)} tableOf m d from BI.Entails.refl _) $$ Htbl
  ihave Hpos' := (show (posLoc d ↦{inq (wL L)} posOf m d : sProp 𝕄) ⊢ (posV).view.loc (thr d L) ↦{inq (wL L)} posOf m d from BI.Entails.refl _) $$ Hpos
  ihave Htok' := (show (tokLoc d ↦{inq (wL L)} tokOf m d : sProp 𝕄) ⊢ (tokV).view.loc (thr d L) ↦{inq (wL L)} tokOf m d from BI.Entails.refl _) $$ Htok
  ihave Hsh' := (show (shLoc d (cV L) ↦[chunkSet (jL L)]{fullShare} fsh : sProp 𝕄) ⊢ (shK L).view.loc (thr d L) ↦[(shK L).view.set]{fullShare} fsh from
    by rw [set_shK]; exact BI.Entails.refl _) $$ Hsh
  ihave Hout' := (show (outLoc d ↦[blockSet (wL L)]{fullShare} fo : sProp 𝕄) ⊢ (outK L).view.loc (thr d L) ↦[(outK L).view.set]{fullShare} fo from
    by rw [set_outK]) $$ Hout
  ihave Ht' := (show ((thr d L).loc cc1_scratch0 ↦{fullShare} ft : sProp 𝕄) ⊢ (tabV).view.loc (thr d L) ↦{fullShare} ft from BI.Entails.refl _) $$ Ht
  ihave Hp' := (show ((thr d L).loc cc1_scratch1 ↦{fullShare} fp : sProp 𝕄) ⊢ (psV).view.loc (thr d L) ↦{fullShare} fp from BI.Entails.refl _) $$ Hp
  ihave Ha' := (show ((thr d L).loc cc1_scratch2 ↦{fullShare} fa : sProp 𝕄) ⊢ (tkV).view.loc (thr d L) ↦{fullShare} fa from BI.Entails.refl _) $$ Ha
  ihave Hr' := (show ((thr d L).loc cc1_scratch3 ↦{fullShare} fr : sProp 𝕄) ⊢ (rsV).view.loc (thr d L) ↦{fullShare} fr from BI.Entails.refl _) $$ Hr
  sl_exec
  ihave Hfull := (show ((shK L).view.loc (thr d L) ↦[(shK L).view.set]{fullShare}
      (shK L).view.writes (Elt F) fsh [⟨Rect.whole S5120, tile_body.sl.dma0_2 m d L⟩] : sProp 𝕄)
      ⊢ shLoc d (cV L) ↦[chunkSet (jL L)]{fullShare} tableOf m d from by
    rw [pointsTo_congr (chunk_filled m d L fsh _ fun _ => rfl), set_shK]; exact BI.Entails.refl _) $$ Hsh'
  ihave Hpays := (pays_intro m d L) $$ Hfull
  iapply (SparseCore.wp_subcoreBarrier 𝒱₀ none EB (bRd m) d (sc := cV L) (i := jV L) sc_bar0 (grid1.bound 1) hsub1 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := thr d L) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  imod (Rounds.cell_close EB (bRd m) (g := bcell d (cV L) (jV L)) (Set.mem_univ (κ _)) (fun h => h) (bRd_duties_succ m _)) $$ [Hat] with Hbar
  · isplitr
    · iapply (SparseCore.ent (bigSep_elim (Φ := fun j : Fin (grid1.bound 1) =>
        (cellInv EB (bRd m) (κ (bcell d (cV L) (j.castLE hsub1))) (bcell d (cV L) (j.castLE hsub1)) : sProp 𝕄)) (Finset.mem_univ (L 1)))); iexact Hinv
    · iexact Hat
  ihave Hall := (pays_elim m d L) $$ Hgot
  ihave Hall' := (show (shLoc d (cV L) ↦{shq (jL L)} tableOf m d : sProp 𝕄) ⊢ (shV).view.loc (thr d L) ↦{shq (jL L)} tableOf m d from BI.Entails.refl _) $$ Hall
  sl_exec
  ihave Hfill := (show iprop(((tabV).view.loc (thr d L) ↦{fullShare} (tabV).view.write (Elt F) ft (tile_body.sl.dma0_3 m d) Finset.univ)
      ∗ ((psV).view.loc (thr d L) ↦{fullShare} (psV).view.write (Elt F) fp (tile_body.sl.dma0 m d L) Finset.univ)
      ∗ ((tkV).view.loc (thr d L) ↦{fullShare} (tkV).view.write (Elt F) fa (tile_body.sl.dma0_1 m d L) Finset.univ)
      ∗ ((rsV).view.loc (thr d L) ↦{fullShare} fr) : sProp 𝕄)
      ⊢ filled d L (tableOf m d) (cols L (posOf m d)) (cols L (tokOf m d)) 0 from by
    rw [View.write_whole_univ, show tile_body.sl.dma0_3 m d = tableOf m d from rfl, show (psV).view.write (Elt F) fp (tile_body.sl.dma0 m d L) Finset.univ = cols L (posOf m d) from cols_read L fp (posOf m d),
      show (tkV).view.write (Elt F) fa (tile_body.sl.dma0_1 m d L) Finset.univ = cols L (tokOf m d) from cols_read L fa (tokOf m d)]
    unfold filled scratch
    iintro H
    iexists fr; isplitr
    · ipureintro; exact fun x hx => absurd hx (Nat.not_lt_zero _)
    · iexact H) $$ [Ht' Hp' Ha' Hr']
  · isplitl [Ht']; · iexact Ht'
    isplitl [Hp']; · iexact Hp'
    isplitl [Ha']; · iexact Ha'
    iexact Hr'
  ihave Hloop := (Scf.wp_for_bind _ _ _ _ _ _ _ ⟨⟩ _ (fun n _ => filled d L (tableOf m d) (cols L (posOf m d)) (cols L (tokOf m d)) n)
    (fun t u => filled_step d L t fun f => trip (cols_inRange m d L hpre) _ _ _ _ _ _ _ _ _ _ _ _ _ _ _ _ _ _ _ t u)) $$ Hfill
  iapply Hloop
  iintro %u Hd
  unfold filled scratch
  icases Hd with ⟨%g, %hg, Ht, Hp, Ha, Hr⟩
  rw [show Scf.trips _ _ _ = 32 from trips_eq] at hg
  sl_exec
  ihave Hblk := (show ((outK L).view.loc (thr d L) ↦[(outK L).view.set]{fullShare} (outK L).view.writes (Elt F) fo [⟨Rect.whole S512, tile_body.sl.dma0_4 g⟩] : sProp 𝕄)
      ⊢ blkOut m d (wL L) from by
    rw [pointsTo_congr (block_filled m d L fo (tile_body.sl.dma0_4 g) hg), set_outK]) $$ Hout'
  sl_step
  isplitl [Hblk Hbar Hall']
  · isplitr [Hall']
    · isplitl [Hblk]; · iexact Hblk
      iexact Hbar
    · iexact Hall'
  isplitl [Ht Hp Ha Hr Hbufs]
  · isplitl [Ht]; · iexists _; iexact Ht
    isplitl [Hp]; · iexists _; iexact Hp
    isplitl [Ha]; · iexists _; iexact Ha
    isplitl [Hr]; · iexists _; iexact Hr
    iexact Hbufs
  isplitl [HsP HsA Hs0 Hs1 Hs2 Hsems]
  · isplitl [HsP]; · iexact HsP
    isplitl [HsA]; · iexact HsA
    isplitl [Hs0]; · iexact Hs0
    isplitl [Hs1]; · iexact Hs1
    isplitl [Hs2]; · iexact Hs2
    iexact Hsems
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inr (hp ▸ rfl))
  rcases Finset.mem_insert.mp hp with hp | hp; · exact .inr (.inl (hp ▸ rfl))
  exact .inl hp

/-! ## The obligation -/

/-- The coordinates of the tile `(c, s)`. -/
def coordsV (c : Fin (grid1.bound 0)) (s : Fin (grid1.bound 1)) : grid1.Coords :=
  fun | 0 => c | 1 => s | ⟨_ + 2, h⟩ => absurd h (Nat.not_lt.2 (Nat.le_add_left _ _))

/-- The body that a tile's label runs. -/
theorem defs₀_vector (c : Fin τ.nSC) (s : Fin τ.nSub) :
    defs₀ (F := F) (.scVector c s) 1 ()
      = SparseCore.onTile hcore1 hsub1 (fun c s => cc1__sc_body (coordsV c s)
          tblV (Memref.isWhole_whole _) posV (Memref.isWhole_whole _) tokV (Memref.isWhole_whole _) outV (Memref.isWhole_whole _)
          tabV (Memref.isWhole_whole _) psV (Memref.isWhole_whole _) tkV (Memref.isWhole_whole _) rsV (Memref.isWhole_whole _) shV (Memref.isWhole_whole _)
          cc1_scratch5 cc1_scratch6 cc1_scoped0 cc1_scoped1 cc1_scoped2) ⟨⟩ c s := rfl

set_option maxRecDepth 16384 in
/-- Every tile runs its task and returns its block computed. -/
theorem tileObl (hpre : PreOK m) (hF : (K (F := F)).Facts) : (K (F := F)).TileObl (D (F := F)) 𝒱 (P m) v₀ 0 := by
  intro d c i O W hO hOlev _
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hpre hF O W hO hOlev

end Cert.Proof.Lookup

end
-- ==== Proof.Prep.lean ====
/-
  The TensorCore's call: one point, the transposed logits staged in, the table of log-probabilities computed whole and written
  back. Its run over the arrays of the main program, held at any contents on entry.
-/
module

public import proofs.«01_k».proof.Proof.Base
public import proofs.«01_k».proof.Proof.Gen.KernelIdeal.Launch
public import proofs.«01_k».proof.Proof.Gen.KernelIdeal.Points
public import Idealize.ShloMosaic.Lib.Pipeline.RegionArrays
public import Idealize.ShloMosaic.Lib.Pipeline.RegionsLoop

@[expose] public section

noncomputable section

namespace Cert.Proof.Lookup

open Cert.KernelIdeal Cert.KernelIdeal.Gen

open Idealize.ShloMosaic Idealize.ShloMosaic.TcCoe
open Idealize.ShloMosaic.SparseCore (S V)
open Idealize.ShloMosaic.SparseCore.Cfg (HIx Pay tileRest ownBufs ownSems0 ownCells ownRefs mem_ownCells mem_ownRefs)
open Idealize.ShloMosaic.Pipeline (Dat BodyObligation)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The body -/

/-- The body's run: from the two staging buffers it leaves the first as it was and the second at the table. -/
theorem prep_run (c : Dev nD) (f0 : Vec F S20x4096 .f32) (f1 : Vec F S81920 .f32) (Q : PUnit → sProp 𝕄) :
    iprop(((Memref.whole cc0_stg0_0).view.loc (c : Thread nD τ) ↦{fullShare} f0) ∗ ((Memref.whole cc0_stg1_0).view.loc (c : Thread nD τ) ↦{fullShare} f1)
      ∗ ((((Memref.whole cc0_stg0_0).view.loc (c : Thread nD τ) ↦{fullShare} f0)
        ∗ ((Memref.whole cc0_stg1_0).view.loc (c : Thread nD τ) ↦{fullShare} k0_pay1 f0)) -∗ Q ⟨⟩))
      ⊢ wp frame (wpE (defs₀ (F := F)) 𝒱₀ (c : Thread nD τ) none) Set.univ
          (cc0__tc_prep (Memref.whole cc0_stg0_0) (Memref.isWhole_whole _) (Memref.whole cc0_stg1_0) (Memref.isWhole_whole _)) Q := by
  have hr : (Memref.whole cc0_stg0_0).view.readAt (Elt F) (Rect.unit (s := S20x4096) ![0, 0] S20x4096.size inb_S20x4096_S20x4096_0_0).toLoadRect f0 = f0 :=
    Memref.readAt_unit_zero (Elt F) cc0_stg0_0 (off := ![0, 0]) (by decide) inb_S20x4096_S20x4096_0_0 f0
  have hw (w : Vec F S81920 .f32) : (Memref.whole cc0_stg1_0).view.writes (Elt F) f1 [⟨Rect.unit (s := S81920) ![0] S81920.size inb_S81920_S81920_0, w⟩] = w :=
    Memref.write_access_unit_zero_univ (Elt F) cc0_stg1_0 (off := ![0]) (by decide) inb_S81920_S81920_0 f1 w
  rw [cc0__tc_prep_eq_skeleton]
  iintro ⟨H0, H1, Hk⟩
  sl_exec
  rw [hw]
  sl_step
  iapply Hk
  isplitl [H0] <;> iassumption

/-! ## The call's data, at contents on entry -/

variable (W : (c : Dev nD) → (b : Ref sig .tc) → Buf (Elt F) ((c : Thread nD τ).loc b))

/-- The pairs the TensorCore's waits may have recorded before the call. -/
abbrev before (c : Dev nD) : Set (SemLoc sig × HIx 1) := {p | (K (F := F)).lev ((c : Thread nD τ), p.1) p.2 ≤ 0}

/-- The call's data: the two arrays as on entry, the table computed, the SparseCores' starts still owed. -/
def dat (c : Dev nD) : Dat τ (Elt F) (HIx 1) ℕ UU ℕ cfg0 c where
  A w := W c (Pipeline.arrRef spec0 w)
  after w _ := match w with
    | ⟨0, _⟩ => W c main_v0
    | ⟨1, _⟩ => k0_pay1 (W c main_v0)
  Φ _ := iprop(emp)
  q _ := fullShare
  owed _ := (K (F := F)).Otc c 0
  recorded _ := before (F := F) c

abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dat W c

/-- The block staged in is the whole array. -/
theorem read_blk0 (f : Vec F S20x4096 .f32) : ((cfg0.win 0).blk t0_0).view.read (Elt F) f = f :=
  Memref.read_access_unit_zero (Elt F) main_v0 (by decide) _ f
/-- The block written back is the whole array. -/
theorem write_blk1 (f w : Vec F S81920 .f32) : ((cfg0.win 1).blk t0_0).view.write (Elt F) f w Finset.univ = w :=
  Memref.write_access_unit_zero_univ (Elt F) main_v1 (by decide) _ f w

/-- The input's staging buffer holds the whole input at the body. -/
theorem before_in (c : Dev nD) (d : (cfg0.win 0).block.Idx → Elt F (cfg0.win 0).elt) : (dat W c).before 0 t0_0 d = W c main_v0 := by
  unfold Dat.before; rw [if_pos (fetch0_0 t0_0)]; exact read_blk0 (F := F) _

/-- After the call the result array is the table of the input. -/
theorem arr_out (c : Dev nD) : (dat W c).arrAt 1 cfg0.N = k0_pay1 (W c main_v0) := by
  rw [show cfg0.N = t0_0.val + 1 from N_0, Dat.arrAt_succ, if_pos (flush0_1 t0_0)]
  exact write_blk1 _ _

/-- The call's body, run once, stores the table. -/
theorem body_obligation (c : Dev nD) : BodyObligation (dat W c) (defs₀ (F := F)) 𝒱₀ none Set.univ := fun t => by
  obtain rfl := fin_N0 t
  rw [bigSep_W0, bigSep_W0]
  simp only [owns_whole_eq]
  rw [show (dat W c).Φ t0_0.castSucc = iprop(emp) from rfl, show (dat W c).Φ t0_0.succ = iprop(emp) from rfl,
    show (dat W c).owesAt none t0_0.succ = (dat W c).owesAt none t0_0.castSucc from rfl]
  iintro ⟨-, Howes, ⟨%d0, %f0, %hf0, H0⟩, ⟨%d1, %f1, -, H1⟩⟩
  rw [before_in] at hf0
  subst hf0
  iapply (prep_run c (W c main_v0) f1 _)
  isplitl [H0]; · iexact H0
  isplitl [H1]; · iexact H1
  iintro ⟨H0, H1⟩
  isplitr; · iempintro
  isplitl [Howes]; · iexact Howes
  isplitl [H0]; · iexists _; isplitr; swap; (· iexact H0); ipureintro; dsimp only [dat]
  iexists _; isplitr; swap; (· iexact H1); ipureintro; dsimp only [dat]

/-! ## The region -/

/-- The arrays after the call: the table in place, the rest as on entry. -/
def after (c : Dev nD) (b : Ref sig .tc) : Buf (Elt F) ((c : Thread nD τ).loc b) :=
  if h : b = main_v1 then h ▸ (k0_pay1 (W c main_v0) : Vec F S81920 .f32) else W c b

/-- The result array after the call. -/
theorem after_v1 (c : Dev nD) : after W c main_v1 = k0_pay1 (W c main_v0) := dif_pos rfl
/-- Every other array is unchanged by the call. -/
theorem after_ne (c : Dev nD) {b : Ref sig .tc} (h : b ≠ main_v1) : after W c b = W c b := dif_neg h

/-- The TensorCore's waits recorded so far, and the starts it owes. -/
abbrev owing (c : Dev nD) : sProp 𝕄 := iprop(∃ Wd, ⌜(K (F := F)).WBelow (c : Thread nD τ) Wd 0⌝ ∗ owes (c : Thread nD τ) ((K (F := F)).Otc c 0) Wd)

set_option backward.isDefEq.respectTransparency.types false in
/-- The call as a region of the main program: from every array at `W` to every array at `after W`. -/
def reg : Pipeline.RegionSeg (pcfgs (F := F)) adm (pdats W) none defs₀ 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody c := (body_obligation W c).loose
  hwaits c := Pipeline.cellsWaits_intro _ _ none 0 c fun w s t => (K (F := F)).mayWait_none _ fun g => by
    refine Nat.eq_zero_of_not_pos fun h => ?_
    have := (K (F := F)).lev_of_Otc_pos h
    simp at this
  pre c := iprop(unscopedBufs c (W c) ∗ owing c)
  post c := iprop(unscopedBufs c (after W c) ∗ owing c)
  X _ := iprop(emp)
  Y _ := iprop(emp)
  Z c := Pipeline.unscopedRest (Ix := HIx 1) (Name := ℕ) (U := UU) (Lvl := ℕ) spec0 c (W c)
  hentry c := by
    rw [Pipeline.ownSems0_none]
    have hsplit := Pipeline.arrays_of_unscopedBufs (p := 0) (pcfgs (F := F)) adm (pdats W) (launch0).win (launch0).arr_whole c
      ((pdats W 0 c).share_full fun _ => rfl) (W c) fun _ => rfl
    iintro ⟨⟨Hub, ⟨%Wd, %hWd, HO⟩⟩, -, -⟩
    ihave H := hsplit $$ Hub
    icases H with ⟨Ha, Hrest⟩
    imodintro
    isplitl [Ha]; · iexact Ha
    isplitr; · rw [Pipeline.prefHeld_of_none _ rfl]; iempintro
    isplitl [HO]
    · unfold Pipeline.Dat.owesAt Pipeline.owesWithin
      iexists Wd; isplitr; · ipureintro; exact fun p hp => Or.inl (hWd p hp)
      iexact HO
    isplitr; · iempintro
    iexact Hrest
  hin c := by
    rw [show (pdats W 0 c).Φ 0 = iprop(emp) from rfl]
    iintro -; iempintro
  hout c := by
    rw [Pipeline.ownSems0_none, show (pdats W 0 c).Φ (Fin.last _) = iprop(emp) from rfl,
      show Pipeline.scopedRest (Ix := HIx 1) (Name := ℕ) (U := UU) (Lvl := ℕ) (Val := Elt F) (Pipeline.pin (pcfgs (F := F)) adm 0).spec c = iprop(emp) from scopedRest0_eq c]
    iintro -
    isplitr; · iempintro
    isplitr <;> iempintro
  hexit c := by
    have hjoin := Pipeline.unscopedBufs_of_arrays (p := 0) (pcfgs (F := F)) adm (Ix := HIx 1) (Name := ℕ) (U := UU) (Lvl := ℕ) (launch0).win (launch0).arr_whole c
      (pdats W) ((pdats W 0 c).share_full fun _ => rfl) (W c) (after W c) ((pdats W 0 c).arrAt · cfg0.N)
      (fun w => by
        fin_cases w
        · exact ((pdats W 0 c).arrAt_in 0 rfl _).trans (after_ne W c (b := main_v0) (by decide)).symm
        · exact (arr_out W c).trans (after_v1 W c).symm)
      (fun b hb => after_ne W c fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%Wd, %hWd, HO⟩; iexists Wd
    isplitr
    · ipureintro
      intro p hp
      rcases hWd hp with h | ⟨w, s, rfl⟩
      · exact h
      · exact le_rfl
    iexact HO

/-- The call's cells are distinct. -/
theorem phinj : Function.Injective (Pipeline.cellOf (nD := nD) (τ := τ) (Pipeline.pin (pcfgs (F := F)) adm)) := cellOf_inj

/-- What the launch gives the TensorCore for the call: the staging cells' state and tokens. -/
abbrev G (c : Dev nD) : sProp 𝕄 :=
  iprop(Pipeline.cellsGhost (Pipeline.pin (pcfgs (F := F)) adm) EP 0 c ∗ Pipeline.toksInit (Pipeline.pin (pcfgs (F := F)) adm) EP 0 c)

/-- The call's statement in the main program. -/
theorem prep_step [∀ e, Nonempty (Elt F e)] (c : Dev nD) (Φ : PUnit → sProp 𝕄) :
    iprop((iprop(boundary (c : Thread nD τ) ∗ unscopedBufs c (after W c) ∗ owing c) -∗ Φ ⟨⟩)
        ∗ boundary (c : Thread nD τ) ∗ (unscopedBufs c (W c) ∗ owing c) ∗ levAts (K (F := F)).L (K (F := F)).lev ∗ G c)
      ⊢ wp frame (wpE ((K (F := F)).defs (D (F := F))) 𝒱 (c : Thread nD τ) none) Set.univ
          (Prog.lift (.customCall (SparseCore.inner (Pipeline.entry 0)) ())) Φ := by
  have hprog : (SparseCore.liftProg (Q := 1) (.op (.customCall (Pipeline.entry 0) ()) .ret : Prog (TpuEff nD τ sig (Elt F) (ΛP (F := F)) .tc) PUnit)
      : Prog (TpuEff nD τ sig (Elt F) (SparseCore.Sig (ΛP (F := F)) 1) .tc) PUnit)
      = Prog.lift (.customCall (SparseCore.inner (Pipeline.entry 0)) ()) := rfl
  have hlift := (K (F := F)).wp_liftProg (Name := ℕ) (U := UU) (D (F := F)) 𝒱 (c : Thread nD τ) Set.univ none
    (.op (.customCall (Pipeline.entry 0) ()) .ret : Prog (TpuEff nD τ sig (Elt F) (ΛP (F := F)) .tc) PUnit) Φ
  have hreg := Pipeline.RegionSeg.wp (pcfgs (F := F)) adm (pdats W) none phinj EP (defs₀ (F := F)) 𝒱₀ (K (F := F)).L (K (F := F)).lev
    (reg W) c none (fun u hu => absurd hu (Option.not_mem_none u)) .ret Φ
  rw [← hprog]
  refine .trans ?_ (hreg.trans hlift)
  refine sep_mono_left (wand_mono .rfl ?_)
  rw [wp_ret]
  exact fupd_intro

end Cert.Proof.Lookup

end
-- ==== Proof.Split.lean ====
/-
  How the arrays are parted for the call and joined after it: the three input arrays in thirty-two shares, the result in
  thirty-two blocks, and each SparseCore's shared scratch in sixteen chunks going out and sixteen shares coming back.
-/
module

public import proofs.«01_k».proof.Proof.Tile
public import proofs.«01_k».proof.Proof.Prep

@[expose] public section

noncomputable section

namespace Cert.Proof.Lookup

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (d : Dev nD)

/-! ## The thirty-two tiles -/

/-- The tiles' numbers are the 32 blocks, each once. -/
theorem wid_bijective : Function.Bijective fun x : Fin 2 × Fin 16 => wid x.1 x.2 := by
  refine (Fintype.bijective_iff_injective_and_card _).mpr ⟨fun a b h => ?_, by decide⟩
  have h := congrArg Fin.val h
  simp only [wid] at h
  have := a.1.isLt; have := b.1.isLt
  exact Prod.ext (Fin.ext (by omega)) (Fin.ext (by omega))

/-- A resource per block is a resource per core and task. -/
theorem by_tile (Φ : Fin 32 → sProp 𝕄) :
    (bigSep Finset.univ fun c : Fin ((K (F := F)).nCore 0) => bigSep Finset.univ fun i : Fin ((K (F := F)).nSub 0) => Φ (widOf c i)) = bigSep Finset.univ Φ :=
  ((bigSep_univ_equiv (Equiv.ofBijective _ wid_bijective) Φ).trans (bigSep_univ_prod _)).symm

/-- A resource per task is a resource per tile of a SparseCore. -/
theorem by_task (Φ : Fin 16 → sProp 𝕄) :
    (bigSep Finset.univ fun i : Fin ((K (F := F)).nSub 0) => Φ (Fin.cast nSub_zero i)) = bigSep Finset.univ Φ :=
  (bigSep_univ_equiv (finCongr (nSub_zero (F := F))) Φ).symm

omit [FloatOps F] in
/-- A block's set of indices. -/
theorem blockSet_eq (w : Fin 32) : blockSet w = (block w).set := (View.set_slice _ _).trans Finset.map_refl
omit [FloatOps F] in
/-- Different blocks share no index. -/
theorem blocks_disjoint : ∀ i ∈ (Finset.univ : Finset (Fin 32)), ∀ j ∈ (Finset.univ : Finset (Fin 32)), i ≠ j → Disjoint (blockSet i) (blockSet j) :=
  fun i _ j _ h => by rw [blockSet_eq, blockSet_eq]; exact Rect.part_disjoint hblock h
omit [FloatOps F] in
/-- The blocks make up the result. -/
theorem blocks_cover : (Finset.univ : Finset (Fin 32)).biUnion blockSet = Finset.univ :=
  (Finset.biUnion_congr rfl fun w _ => blockSet_eq w).trans (Rect.biUnion_part hblock)

omit [FloatOps F] in
/-- The result array is its thirty-two blocks. -/
theorem out_blocks (f : Buf (Elt F) (outLoc d)) :
    (outLoc d ↦{fullShare} f : sProp 𝕄) = bigSep Finset.univ fun w : Fin 32 => outLoc d ↦[blockSet w]{fullShare} f := by
  rw [← pointsTo_biUnion Finset.univ (ℓ := outLoc d) blockSet blocks_disjoint, blocks_cover]; try rfl

/-! ## The call's operands and results -/

/-- The operands, parted among the tiles. -/
theorem operands_deal (f : Buf (Elt F) (outLoc d)) :
    iprop((tblLoc d ↦{fullShare} tableOf m d) ∗ (posLoc d ↦{fullShare} posOf m d) ∗ (tokLoc d ↦{fullShare} tokOf m d) ∗ outLoc d ↦{fullShare} f)
      ⊢ (bigSep Finset.univ fun c : Fin ((K (F := F)).nCore 0) => (P m).st 0 d c : sProp 𝕄) := by
  show _ ⊢ (bigSep Finset.univ fun c : Fin ((K (F := F)).nCore 0) => bigSep Finset.univ fun i : Fin ((K (F := F)).nSub 0) =>
    iprop(ins m d (widOf c i) ∗ blkAny d (widOf c i)) : sProp 𝕄)
  rw [by_tile (F := F) fun w => iprop(ins m d w ∗ blkAny d w)]
  rw [bigSep_sep', bigSep_sep', bigSep_sep', out_blocks]
  rw [Transfers.pointsTo_deal (ℓ := tblLoc d) (Finset.univ : Finset (Fin 32)) ⟨0, Finset.mem_univ _⟩ fullShare,
    Transfers.pointsTo_deal (ℓ := posLoc d) (Finset.univ : Finset (Fin 32)) ⟨0, Finset.mem_univ _⟩ fullShare,
    Transfers.pointsTo_deal (ℓ := tokLoc d) (Finset.univ : Finset (Fin 32)) ⟨0, Finset.mem_univ _⟩ fullShare]
  iintro ⟨Ht, Hp, Ha, Ho⟩
  isplitr [Ho]
  · isplitl [Ht]; · iexact Ht
    isplitl [Hp]; · iexact Hp
    iexact Ha
  iapply (SparseCore.ent (bigSep_mono (Φ := fun w : Fin 32 => (outLoc d ↦[blockSet w]{fullShare} f : sProp 𝕄)) (Ψ := fun w => blkAny d w)
    fun w _ => BI.BIClass.exists_intro (Φ := fun f : Buf (Elt F) (outLoc d) => (outLoc d ↦[blockSet w]{fullShare} f : sProp 𝕄)) f))
  iexact Ho

/-- The barrier semaphores of both SparseCores, at zero. -/
abbrev bars : sProp 𝕄 := bigSep Finset.univ fun c : Fin ((K (F := F)).nCore 0) => bigSep Finset.univ fun i : Fin ((K (F := F)).nSub 0) =>
  semVal (bcell d (coreOf c) ((K (F := F)).sub 0 i)) 0

/-- The results, joined: the result array computed. -/
theorem results_join :
    (bigSep Finset.univ fun c : Fin ((K (F := F)).nCore 0) => (P m).dn 0 d c)
      ⊢ (iprop((outLoc d ↦{fullShare} outOf m d) ∗ bars (F := F) d) : sProp 𝕄) := by
  show (bigSep Finset.univ fun c : Fin ((K (F := F)).nCore 0) => bigSep Finset.univ fun i : Fin ((K (F := F)).nSub 0) =>
    iprop(blkOut m d (widOf c i) ∗ semVal (bcell d (coreOf c) ((K (F := F)).sub 0 i)) 0)) ⊢ _
  simp only [bigSep_sep']
  rw [by_tile (F := F) fun w => blkOut m d w, out_blocks]

/-! ## Each SparseCore's shared scratch -/

omit [FloatOps F] in
/-- The shared scratch is among its sequencer's own buffers. -/
theorem ownBufs_S (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  exact SparseCore.bigSep_erase' ((mem_ownRefs (p := Proc.scScalar c) (b := shRef c)).mpr rfl)

/-- The scratch at any contents, in chunks at any contents. -/
theorem sh_deal (c : Fin τ.nSC) : (iprop(∃ f, shLoc d c ↦{fullShare} f) : sProp 𝕄) ⊢ bigSep Finset.univ fun j : Fin 16 => chunkAny d c j := by
  iintro ⟨%f, H⟩
  ihave H' := (Entails.of_eq (sh_chunks d c fullShare f)) $$ H
  iapply (SparseCore.ent (bigSep_mono (Φ := fun j : Fin 16 => (shLoc d c ↦[chunkSet j]{fullShare} f : sProp 𝕄)) (Ψ := fun j => chunkAny d c j)
    fun j _ => BI.BIClass.exists_intro (Φ := fun f : Buf (Elt F) (shLoc d c) => (shLoc d c ↦[chunkSet j]{fullShare} f : sProp 𝕄)) f))
  iexact H'

/-- The sixteen shares of the filled scratch are it whole. -/
theorem sh_join (c : Fin τ.nSC) : (bigSep Finset.univ fun j : Fin 16 => shAll m d c j) ⊢ (iprop(∃ f, shLoc d c ↦{fullShare} f) : sProp 𝕄) := by
  refine (Entails.of_eq (Transfers.pointsTo_deal (ℓ := shLoc d c) (f := tableOf m d) (S := Finset.univ) (Finset.univ : Finset (Fin 16)) ⟨0, Finset.mem_univ _⟩ fullShare).symm).trans ?_
  exact BI.BIClass.exists_intro (Φ := fun f : Buf (Elt F) (shLoc d c) => (shLoc d c ↦{fullShare} f : sProp 𝕄)) (tableOf m d)

/-- The sequencer hands its tasks their parts and chunks, and joins what they bring back. -/
theorem vecSplit : (K (F := F)).VecSplit (P m) 0 := by
  intro d c
  show iprop((bigSep Finset.univ fun i : Fin ((K (F := F)).nSub 0) => iprop(ins m d (widOf c i) ∗ blkAny d (widOf c i))) ∗ ownBufs (S d (coreOf c)))
    ⊢ |={Set.univ}=> iprop(
      (bigSep Finset.univ fun i : Fin ((K (F := F)).nSub 0) => iprop((ins m d (widOf c i) ∗ blkAny d (widOf c i)) ∗ chunkAny d (coreOf c) (Fin.cast nSub_zero i)))
      ∗ ((bigSep Finset.univ fun i : Fin ((K (F := F)).nSub 0) =>
            iprop((blkOut m d (widOf c i) ∗ semVal (bcell d (coreOf c) ((K (F := F)).sub 0 i)) 0) ∗ shAll m d (coreOf c) (Fin.cast nSub_zero i)))
          -∗ iprop((bigSep Finset.univ fun i : Fin ((K (F := F)).nSub 0) => iprop(blkOut m d (widOf c i) ∗ semVal (bcell d (coreOf c) ((K (F := F)).sub 0 i)) 0))
            ∗ ownBufs (S d (coreOf c)))))
  rw [bigSep_sep' _ (fun i : Fin ((K (F := F)).nSub 0) => iprop(ins m d (widOf c i) ∗ blkAny d (widOf c i))),
    bigSep_sep' _ (fun i : Fin ((K (F := F)).nSub 0) => iprop(blkOut m d (widOf c i) ∗ semVal (bcell d (coreOf c) ((K (F := F)).sub 0 i)) 0)),
    by_task (F := F) (fun j => chunkAny d (coreOf c) j), by_task (F := F) (fun j => shAll m d (coreOf c) j), ownBufs_S]
  iintro ⟨Hst, Hsh, Hrest⟩; imodintro
  isplitl [Hst Hsh]
  · isplitl [Hst]; · iexact Hst
    iapply (sh_deal d (coreOf c)); iexact Hsh
  iintro ⟨Hdn, Hsh⟩
  isplitl [Hdn]; · iexact Hdn
  isplitl [Hsh]; · iapply (sh_join m d (coreOf c)); iexact Hsh
  iexact Hrest

end Cert.Proof.Lookup

end
-- ==== Proof.Launch.lean ====
/-
  What the launch funds: the handshakes' rounds, every tile's kit for the barrier, and the TensorCore call's staging cells.
-/
module

public import proofs.«01_k».proof.Proof.Split

@[expose] public section

noncomputable section

namespace Cert.Proof.Lookup

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The barrier's cells and tokens -/

/-- A tile of the mesh. -/
abbrev DCI : Type := Dev nD × Fin τ.nSC × Fin τ.nSub
abbrev cellOfTile (x : DCI) : GSem nD τ sig := bcell x.1 x.2.1 x.2.2

/-- Every tile's barrier cell. -/
def bCells : Finset (GSem nD τ sig) := Finset.univ.image cellOfTile
/-- Tile `x`'s token in tile `j`'s cell of the same SparseCore. -/
def bToks : Finset (GSem nD τ sig × ℕ × ℕ) :=
  (Finset.univ ×ˢ Finset.univ).image fun x : DCI × Fin (grid1.bound 1) => (bcell x.1.1 x.1.2.1 (x.2.castLE hsub1), 0, x.1.2.2.val)

/-- The launch's ghost state. -/
def u₀ : UU := (initOf (K (F := F)).hsCells (K (F := F)).hsToks, (initOf bCells bToks,
  (initOf (Pipeline.cells (Pipeline.pin (pcfgs (F := F)) adm) phinj) (Pipeline.launchToks (Pipeline.pin (pcfgs (F := F)) adm) phinj), 1)))

omit [FloatOps F] in
/-- Different tiles have different barrier cells. -/
theorem cellOfTile_injective : Function.Injective (cellOfTile : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
/-- The three rounds' parts of a launch's ghost state. -/
theorem ownU_parts (a : UH) (b : UB) (p : UP) : (ownU ((a, (b, (p, 1))) : UU) : sProp 𝕄) ⊢ iprop(BI.own (EH a) ∗ BI.own (EB b) ∗ BI.own (EP p)) := by
  have h1 : (ownU ((a, (b, (p, 1))) : UU) : sProp 𝕄) ⊢ iprop(BI.own (EH a)
      ∗ BI.own (((Emb.inr : Emb (UB × (UP × Counters)) UU).trans
        (uEmb (nD := nD) (sig := sig) (Ix := HIx 1) (Val := Elt F) (Name := ℕ) (U := UU) (Lvl := ℕ)).toEmb) (b, (p, 1)))) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, (p, (1 : Counters))))))
  have h2 : (BI.own (((Emb.inr : Emb (UB × (UP × Counters)) UU).trans
        (uEmb (nD := nD) (sig := sig) (Ix := HIx 1) (Val := Elt F) (Name := ℕ) (U := UU) (Lvl := ℕ)).toEmb) (b, (p, 1))) : sProp 𝕄)
      ⊢ iprop(BI.own (EB b) ∗ BI.own (EP p)) :=
    BI.own_op_elim (((Emb.inr : Emb (UB × (UP × Counters)) UU).trans
      (uEmb (nD := nD) (sig := sig) (Ix := HIx 1) (Val := Elt F) (Name := ℕ) (U := UU) (Lvl := ℕ)).toEmb).op_of_mem
        (Prod.mk_mem_op (URA.mem_op_one b) (URA.mem_one_op (p, (1 : Counters)))))
  exact h1.trans (sep_mono_right h2)

omit [FloatOps F] in
/-- A product over the barrier's cells is one over the tiles. -/
theorem over_bCells (Φ : GSem nD τ sig → sProp 𝕄) : bigSep bCells Φ = bigSep Finset.univ fun x : DCI => Φ (cellOfTile x) := by
  unfold bCells; exact SparseCore.bigSep_image_of_injOn (fun a _ b _ e => cellOfTile_injective e) Φ

/-- Every barrier semaphore at zero, out of the free semaphores. -/
theorem bar_sems : ((K (F := F)).freeOn (· ∈ bCells) : sProp 𝕄) ⊢ bigSep bCells fun g => semVal g 0 := by
  rw [over_bCells]
  unfold SparseCore.Cfg.freeOn
  refine sep_elim_right.trans (bigSep_mono fun x _ => ?_)
  exact bigSep_elim (Φ := fun sm : SemLoc sig => (semVal (V x.1 x.2.1 x.2.2, sm) 0 : sProp 𝕄)) (Finset.mem_filter.mpr
    ⟨Finset.mem_erase.mpr ⟨fun h => sc_bar0_ne_go (SemLoc.reg.inj h), Finset.mem_filter.mpr ⟨Finset.mem_univ _, by decide⟩⟩,
      Finset.mem_image_of_mem cellOfTile (Finset.mem_univ x)⟩)

/-- The cells' invariants, allocated at once. -/
theorem bar_invs : iprop((bigSep bCells fun g => (semVal g 0 : sProp 𝕄)) ∗ bigSep bCells fun g => roundState EB (bRd m) g 0)
    ⊢ |={Set.univ}=> iprop(∃ κ : GSem nD τ sig → ℕ, bigSep bCells fun g => cellInv EB (bRd m) (κ g) g) := by
  refine (Rounds.bodies_intro EB (bRd m) bCells).trans ((inv_alloc_family bCells (Rounds.body EB (bRd m)) ∅ (E := Set.univ)).trans ?_)
  iintro H
  imod H with ⟨%κ, -, Hinv⟩
  imodintro; iexists κ; iexact Hinv

omit [FloatOps F] in
/-- `n` debts of one unit are one debt of `n` units. -/
theorem units_sum (g : GSem nD τ sig) (ι : HIx 1) (n : ℕ) : ∑ _ : Fin n, tallyAt g ι 1 = (tallyAt g ι n : CellTallies nD τ sig (HIx 1)) := by
  induction n with
  | zero => rw [Fin.sum_univ_zero, tallyAt_zero]
  | succ n ih => rw [Fin.sum_univ_castSucc, ih, tallyAt_add]

/-- The credit for the tiles' debts: each tile the sixteen units of its own cell. -/
theorem bar_creds : ((P m).oxCred : sProp 𝕄) ⊢ bigSep Finset.univ fun x : DCI => cred (tallyAt (cellOfTile x) (some 0) (grid1.bound 1)) := by
  unfold SparseCore.Cfg.Pay.oxCred
  rw [SparseCore.Cfg.bigSep_threads (fun thr : Thread nD τ => (cred ((P m).oxFrom 0 thr) : sProp 𝕄))]
  refine sep_elim_right.trans (sep_elim_right.trans ?_)
  rw [bigSep_univ_prod, bigSep_univ_prod (fun x : DCI => (cred (tallyAt (cellOfTile x) (some 0) (grid1.bound 1)) : sProp 𝕄))]
  refine bigSep_mono fun d _ => ?_
  rw [bigSep_univ_prod, bigSep_univ_prod (fun ci : Fin τ.nSC × Fin τ.nSub => (cred (tallyAt (cellOfTile (d, ci)) (some 0) (grid1.bound 1)) : sProp 𝕄))]
  refine bigSep_mono fun c _ => ?_
  dsimp only
  have hox (i : Fin τ.nSub) : (P m).oxFrom 0 (V d c i) = oxV d c := by
    rw [show (0 : ℕ) = (0 : Fin 1).val from rfl, (P m).oxFrom_step, (P m).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, units_sum]; rfl

omit [FloatOps F] in
/-- The product of the barrier's duty tokens, tile by tile. -/
theorem over_bToks : (bigSep bToks fun x => (dutyTok EB x.1 x.2.1 x.2.2 : sProp 𝕄))
    = bigSep Finset.univ fun x : DCI => bigSep Finset.univ fun j : Fin (grid1.bound 1) => dutyTok EB (bcell x.1 x.2.1 (j.castLE hsub1)) 0 x.2.2.val := by
  unfold bToks
  rw [SparseCore.bigSep_image_of_injOn, SparseCore.bigSep_product]
  rintro ⟨⟨d, c, i⟩, j⟩ - ⟨⟨d', c', i'⟩, j'⟩ - e
  have e1 := (Prod.mk.inj (Prod.mk.inj e).1).1
  obtain rfl : i = i' := Fin.ext (Prod.mk.inj (Prod.mk.inj e).2).2
  obtain ⟨rfl, h⟩ := Prod.mk.inj e1
  obtain ⟨rfl, hj⟩ := Proc.scVector.inj h
  obtain rfl : j = j' := Fin.ext (congrArg Fin.val hj)
  rfl

/-! ## The kits -/

/-- What every tile is handed alike: the cells' invariants, and that each cell has reached round 0. -/
abbrev common : sProp 𝕄 :=
  iprop((∃ κ : GSem nD τ sig → ℕ, bigSep Finset.univ fun x : DCI => cellInv EB (bRd m) (κ (cellOfTile x)) (cellOfTile x))
    ∗ bigSep Finset.univ fun x : DCI => reached EB (cellOfTile x) 0)
/-- What a tile is handed of its own: its position, its tokens, its credit. -/
abbrev own' (x : DCI) : sProp 𝕄 :=
  iprop(atPos EB (cellOfTile x) 0 ∅ 0
    ∗ (bigSep Finset.univ fun j : Fin (grid1.bound 1) => dutyTok EB (bcell x.1 x.2.1 (j.castLE hsub1)) 0 x.2.2.val)
    ∗ cred (tallyAt (cellOfTile x) (some 0) (grid1.bound 1)))

/-- A tile's kit out of those. -/
theorem kit_intro (x : DCI) : iprop(common m ∗ own' x) ⊢ (bkit m x.1 x.2.1 x.2.2 : sProp 𝕄) := by
  obtain ⟨d, c, i⟩ := x
  iintro ⟨⟨#Hinv, #Hr⟩, Hat, Htok, Hcred⟩
  unfold bkit
  isplitr
  · icases Hinv with ⟨%κ, Hinv⟩
    iexists κ
    iapply (SparseCore.ent (BI.bigSep_intro_persistent (R := bigSep Finset.univ fun x : DCI => cellInv EB (bRd m) (κ (cellOfTile x)) (cellOfTile x))
      (S := (Finset.univ : Finset (Fin (grid1.bound 1)))) fun j _ =>
        bigSep_elim (Φ := fun x : DCI => (cellInv EB (bRd m) (κ (cellOfTile x)) (cellOfTile x) : sProp 𝕄)) (Finset.mem_univ ((d, c, Fin.castLE hsub1 j) : DCI))))
    iexact Hinv
  isplitl [Htok]; · iexact Htok
  isplitr
  · iapply (SparseCore.ent (BI.bigSep_intro_persistent (R := bigSep Finset.univ fun x : DCI => reached EB (cellOfTile x) 0)
      (S := (Finset.univ : Finset (Fin (grid1.bound 1)))) fun j _ =>
        bigSep_elim (Φ := fun x : DCI => (reached EB (cellOfTile x) 0 : sProp 𝕄)) (Finset.mem_univ ((d, c, Fin.castLE hsub1 j) : DCI))))
    iexact Hr
  isplitl [Hat]; · iexact Hat
  iexact Hcred

/-- The TensorCore hands over nothing of its own. -/
theorem x_T (d : Dev nD) : (bigSep Finset.univ fun q : Fin 1 => (P m).x q (SparseCore.T d)) = iprop(emp) :=
  bigSep_univ_of_subsingleton (0 : Fin 1)
/-- A sequencer hands over nothing of its own. -/
theorem x_S (d : Dev nD) (c : Fin τ.nSC) : (bigSep Finset.univ fun q : Fin 1 => (P m).x q (S d c)) = iprop(emp) :=
  bigSep_univ_of_subsingleton (0 : Fin 1)
/-- What a tile's thread is given at the start: its part of the barrier. -/
theorem x_V (d : Dev nD) (c : Fin τ.nSC) (i : Fin τ.nSub) : (bigSep Finset.univ fun q : Fin 1 => (P m).x q (V d c i)) = bkit m d c i :=
  bigSep_univ_of_subsingleton (0 : Fin 1)

omit [FloatOps F] in
/-- A persistent resource beside a family reaches every member. -/
theorem bigSep_with {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  refine (sep_mono_left (BI.bigSep_intro_persistent (Φ := fun _ => R) (S := s) fun _ _ => .rfl)).trans ?_
  rw [← bigSep_sep']
  exact bigSep_mono h

/-- Every tile its kit. -/
theorem kits_deal :
    iprop(common m ∗ (bigSep Finset.univ fun x : DCI => atPos EB (cellOfTile x) 0 ∅ 0)
        ∗ (bigSep Finset.univ fun x : DCI => bigSep Finset.univ fun j : Fin (grid1.bound 1) => dutyTok EB (bcell x.1 x.2.1 (j.castLE hsub1)) 0 x.2.2.val)
        ∗ (bigSep Finset.univ fun x : DCI => cred (tallyAt (cellOfTile x) (some 0) (grid1.bound 1))))
      ⊢ (bigSep Finset.univ fun thr : Thread nD τ => bigSep Finset.univ fun q : Fin 1 => (P m).x q thr : sProp 𝕄) := by
  rw [SparseCore.Cfg.bigSep_threads (fun thr : Thread nD τ => bigSep Finset.univ fun q : Fin 1 => (P m).x q thr)]
  have hemp {I : Type} (s : Finset I) : (bigSep s fun _ => iprop(emp)) = (iprop(emp) : sProp 𝕄) := bigSep_emp_const s
  simp only [x_T, x_S, x_V, hemp]
  iintro ⟨#Hsh, Hat, Htok, Hcred⟩
  isplitr; · iempintro
  isplitr; · iempintro
  iapply (bigSep_with (R := common m) (Φ := own' (F := F)) (Ψ := fun x : DCI => bkit m x.1 x.2.1 x.2.2) fun x _ => kit_intro m x)
  isplitr; · iexact Hsh
  unfold own'
  rw [bigSep_sep', bigSep_sep']
  isplitl [Hat]; · iexact Hat
  isplitl [Htok] <;> iassumption

/-- The launch's ghost state funds the handshakes, the TensorCore call and the tiles' kits. -/
theorem hu₀ : iprop(ownU (u₀ (F := F)) ∗ (P m).oxCred ∗ (K (F := F)).freeOn (· ∈ bCells))
    ⊢ |={Set.univ}=> iprop(BI.own (EH (initOf (K (F := F)).hsCells (K (F := F)).hsToks)) ∗ (bigSep Finset.univ fun c : Dev nD => G c)
        ∗ (bigSep Finset.univ fun thr : Thread nD τ => bigSep Finset.univ fun q : Fin 1 => (P m).x q thr) : sProp 𝕄) := by
  unfold u₀
  iintro ⟨Hu, Hcred, Hfree⟩
  ihave H := (ownU_parts _ _ _) $$ Hu
  icases H with ⟨HH, HB, HP⟩
  imod (Pipeline.fund_ghost (Pipeline.pin (pcfgs (F := F)) adm) EP phinj) $$ HP with ⟨Hg, Ht⟩
  imod (Rounds.fund EB (bRd m) bCells bToks) $$ HB with ⟨Hst, #Hr, Hat, Htok⟩
  ihave Hsems := (bar_sems (F := F)) $$ Hfree
  imod (bar_invs m) $$ [Hsems Hst] with ⟨%κ, #Hinv⟩
  · isplitl [Hsems] <;> iassumption
  ihave Hcred' := (bar_creds m) $$ Hcred
  ihave Hinv' := (Entails.of_eq (over_bCells (F := F) fun g => cellInv EB (bRd m) (κ g) g)) $$ Hinv
  ihave Hr' := (Entails.of_eq (over_bCells (F := F) fun g => reached EB g 0)) $$ Hr
  ihave Hat' := (Entails.of_eq (over_bCells (F := F) fun g => atPos EB g 0 ∅ 0)) $$ Hat
  ihave Htok' := (Entails.of_eq (over_bToks (F := F))) $$ Htok
  imodintro
  isplitl [HH]; · iexact HH
  isplitl [Hg Ht]
  · unfold G
    rw [bigSep_sep']
    simp only [bigSep_univ_of_subsingleton (0 : Fin 1)]
    isplitl [Hg] <;> iassumption
  iapply (kits_deal m)
  isplitr
  · isplitl; · iexists κ; iexact Hinv'
    iexact Hr'
  isplitl [Hat']; · iexact Hat'
  isplitl [Htok'] <;> iassumption

end Cert.Proof.Lookup

end
-- ==== Proof.Run.lean ====
/-
  The program's run: the TensorCore's transposes and its table, the SparseCores' call, and what memory holds when all threads have ended.
-/
module

public import proofs.«01_k».proof.Proof.Launch

@[expose] public section

noncomputable section

namespace Cert.Proof.Lookup

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The main program's arrays, statement by statement -/

abbrev opLg : HloOp τ sig (Elt F) := StableHlo.unary main_arg0 main_v0 ((transpose S20x4096 [1, 0] · transposes_S4096x20_S20x4096_1_0) : (⟨S4096x20, .f32⟩ : BufTy).Contents (Elt F) → (⟨S20x4096, .f32⟩ : BufTy).Contents (Elt F))
abbrev opPs : HloOp τ sig (Elt F) := StableHlo.unary main_arg1 main_v2 ((transpose S32x16384 [1, 0] · transposes_S16384x32_S32x16384_1_0) : (⟨S16384x32, .i32⟩ : BufTy).Contents (Elt F) → (⟨S32x16384, .i32⟩ : BufTy).Contents (Elt F))
abbrev opAa : HloOp τ sig (Elt F) := StableHlo.unary main_arg2 main_v3 ((transpose S32x16384 [1, 0] · transposes_S16384x32_S32x16384_1_0) : (⟨S16384x32, .i32⟩ : BufTy).Contents (Elt F) → (⟨S32x16384, .i32⟩ : BufTy).Contents (Elt F))

/-- The TensorCore's arrays. -/
def arrs : Finset (DevRef τ sig) := (StableHlo.tcRefs τ sig).filter fun b => ¬ b.isScoped

omit [FloatOps F] in
/-- The TensorCore's arrays at a valuation, in the two ways they are written. -/
theorem arrs_held (c : Dev nD) (W : Valuation τ sig (Elt F)) :
    (unscopedBufs c (fun b => W (Proc.devRef .tc b)) : sProp 𝕄) = held (SparseCore.T c) arrs W := by
  unfold unscopedBufs held arrs StableHlo.tcRefs
  rw [Finset.filter_map, bigSep_map]
  rfl

/-- The logits' transpose touches arrays of the program only. -/
theorem opLg_bufs : (opLg (F := F)).bufs ⊆ arrs :=
  show ({Proc.devRef .tc main_arg0, Proc.devRef .tc main_v0} : Finset (DevRef τ sig)) ⊆ arrs by decide
/-- The positions' transpose likewise. -/
theorem opPs_bufs : (opPs (F := F)).bufs ⊆ arrs :=
  show ({Proc.devRef .tc main_arg1, Proc.devRef .tc main_v2} : Finset (DevRef τ sig)) ⊆ arrs by decide
/-- The tokens' transpose likewise. -/
theorem opAa_bufs : (opAa (F := F)).bufs ⊆ arrs :=
  show ({Proc.devRef .tc main_arg2, Proc.devRef .tc main_v3} : Finset (DevRef τ sig)) ⊆ arrs by decide

variable (d : Dev nD)

/-- On entry. -/
abbrev val0 : Valuation τ sig (Elt F) := fun b => m (d, b)
/-- With the logits transposed. -/
abbrev val1 : Valuation τ sig (Elt F) := (opLg (F := F)).result (val0 m d)
/-- With the table computed. -/
def val2 : Valuation τ sig (Elt F) := Function.update (val1 m d) (Proc.devRef .tc main_v1) (tableOf m d)
/-- With the positions transposed. -/
abbrev val3 : Valuation τ sig (Elt F) := (opPs (F := F)).result (val2 m d)
/-- With the tokens transposed. -/
abbrev val4 : Valuation τ sig (Elt F) := (opAa (F := F)).result (val3 m d)

/-- After the TensorCore call the table is the table. -/
theorem val2_v1 : val2 m d (Proc.devRef .tc main_v1) = tableOf m d := Function.update_self ..
/-- The call leaves the other arrays as they were. -/
theorem val2_ne {b : Ref sig .tc} (h : b ≠ main_v1) : val2 m d (Proc.devRef .tc b) = val1 m d (Proc.devRef .tc b) :=
  Function.update_of_ne (StableHlo.devRef_ne_of_ne h) ..

/-- The call's arrays, as its step leaves them, are the valuation's. -/
theorem after_val (b : Ref sig .tc) :
    after (fun (c : Dev nD) (b : Ref sig .tc) => val1 m c (Proc.devRef .tc b)) d b = val2 m d (Proc.devRef .tc b) := by
  by_cases h : b = main_v1
  · subst h
    rw [after_v1, val2_v1]
    exact congrArg k0_pay1 (StableHlo.unary_result ..)
  · rw [after_ne _ _ h, val2_ne m d h]

/-- The last two transposes leave every array but theirs. -/
theorem val4_other {b : Ref sig .tc} (h3 : b ≠ main_v3) (h2 : b ≠ main_v2) : val4 m d (Proc.devRef .tc b) = val2 m d (Proc.devRef .tc b) :=
  (StableHlo.unary_result_ne _ _ _ _ _ _ h3).trans (StableHlo.unary_result_ne _ _ _ _ _ _ h2)

/-- An array that nothing writes is as it was at the start. -/
theorem val4_entry {b : Ref sig .tc} (h3 : b ≠ main_v3) (h2 : b ≠ main_v2) (h1 : b ≠ main_v1) (h0 : b ≠ main_v0) :
    val4 m d (Proc.devRef .tc b) = m ((SparseCore.T d).loc b) :=
  ((val4_other m d h3 h2).trans (val2_ne m d h1)).trans (StableHlo.unary_result_ne _ _ _ _ _ _ h0)

/-- When the SparseCores start, the table is there. -/
theorem val4_v1 : val4 m d (Proc.devRef .tc main_v1) = tableOf m d := (val4_other m d (by decide) (by decide)).trans (val2_v1 m d)
/-- And the transposed positions. -/
theorem val4_v2 : val4 m d (Proc.devRef .tc main_v2) = posOf m d := by
  refine (StableHlo.unary_result_ne _ _ _ _ _ _ (by decide)).trans ((StableHlo.unary_result ..).trans ?_)
  unfold posOf
  rw [show val2 m d (Proc.devRef .tc main_arg1) = m (psLoc d) from
    (val2_ne m d (by decide)).trans (StableHlo.unary_result_ne _ _ _ _ _ _ (by decide))]
/-- And the transposed tokens. -/
theorem val4_v3 : val4 m d (Proc.devRef .tc main_v3) = tokOf m d := by
  refine (StableHlo.unary_result ..).trans ?_
  unfold tokOf
  rw [show val3 m d (Proc.devRef .tc main_arg2) = m (aaLoc d) from
    (StableHlo.unary_result_ne _ _ _ _ _ _ (by decide)).trans
      ((val2_ne m d (by decide)).trans (StableHlo.unary_result_ne _ _ _ _ _ _ (by decide)))]

omit [FloatOps F] in
/-- The TensorCore's arrays, one by one. -/
theorem arrs_list (W : (b : Ref sig .tc) → Buf (Elt F) ((SparseCore.T d).loc b)) :
    (unscopedBufs d W : sProp 𝕄) = iprop((lgLoc d ↦{fullShare} W main_arg0) ∗ (psLoc d ↦{fullShare} W main_arg1) ∗ (aaLoc d ↦{fullShare} W main_arg2)
      ∗ ((SparseCore.T d).loc main_v0 ↦{fullShare} W main_v0) ∗ (tblLoc d ↦{fullShare} W main_v1) ∗ (posLoc d ↦{fullShare} W main_v2)
      ∗ (tokLoc d ↦{fullShare} W main_v3) ∗ outLoc d ↦{fullShare} W main_v4) := by
  unfold unscopedBufs
  rw [show (Finset.univ.filter fun b : Ref sig .tc => ¬ b.isScoped)
      = {main_arg0, main_arg1, main_arg2, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-! ## The main program -/

/-- The arguments, unchanged. -/
abbrev argsKept : sProp 𝕄 :=
  iprop((lgLoc d ↦{fullShare} m (lgLoc d)) ∗ (psLoc d ↦{fullShare} m (psLoc d)) ∗ aaLoc d ↦{fullShare} m (aaLoc d))
/-- What the main program leaves: the arguments unchanged, the result computed, the barrier's semaphores at zero. -/
abbrev FIN : sProp 𝕄 := iprop(argsKept m d ∗ (outLoc d ↦{fullShare} outOf m d) ∗ bars (F := F) d)

/-- The arrays before the SparseCores' call: the arguments, and the operands in place. -/
theorem arrs_before_run : (held (SparseCore.T d) arrs (val4 m d) : sProp 𝕄)
    ⊢ iprop(argsKept m d ∗ ((tblLoc d ↦{fullShare} tableOf m d) ∗ (posLoc d ↦{fullShare} posOf m d) ∗ (tokLoc d ↦{fullShare} tokOf m d)
        ∗ outLoc d ↦{fullShare} m (outLoc d))) := by
  rw [← arrs_held, arrs_list, val4_v1, val4_v2, val4_v3, val4_entry m d (b := main_arg0) (by decide) (by decide) (by decide) (by decide),
    val4_entry m d (b := main_arg1) (by decide) (by decide) (by decide) (by decide),
    val4_entry m d (b := main_arg2) (by decide) (by decide) (by decide) (by decide),
    val4_entry m d (b := main_v4) (by decide) (by decide) (by decide) (by decide)]
  iintro ⟨H0, H1, H2, -, Ht, Hp, Ha, Ho⟩
  isplitl [H0 H1 H2]
  · isplitl [H0]; · iexact H0
    isplitl [H1] <;> iassumption
  isplitl [Ht]; · iexact Ht
  isplitl [Hp]; · iexact Hp
  isplitl [Ha] <;> iassumption

/-- What the TensorCore owes before the call, set apart from the rest of its state. -/
theorem tcSt_owing : ∃ R : sProp 𝕄, (K (F := F)).tcSt EH d 0 = iprop(owing d ∗ R) := ⟨_, rfl⟩

/-- The main program on device `d`'s TensorCore. -/
theorem hmain [∀ e, Nonempty (Elt F e)] (κ : GSem nD τ sig → ℕ) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt_owing (F := F) d
  rw [hR]
  unfold SparseCore.Cfg.tcRes SparseCore.Cfg.tcEnd
  simp only [main, wp_bind, wp_pure]
  iintro ⟨#Hctx, ⟨Ho, HR⟩, ⟨Hb, Hbufs, Hts, -⟩, HG⟩
  ihave Hheld := (Entails.of_eq (arrs_held d (val0 m d))) $$ Hbufs
  iapply (wp_hlo_within 𝒱 (SparseCore.T d) none Set.univ (op := opLg) (S := arrs) opLg_bufs (V := val0 m d)) $$ [Hb Hheld]
  · isplitl [Hb] <;> iassumption
  iintro ⟨Hb, Hheld⟩
  rw [wp_ret]; imodintro
  ihave Hbufs := (Entails.of_eq (arrs_held d (val1 m d)).symm) $$ Hheld
  iapply (prep_step (fun (c : Dev nD) (b : Ref sig .tc) => val1 m c (Proc.devRef .tc b)) d _)
  isplitr [Hb Hbufs Ho HG]; swap
  · isplitl [Hb]; · iexact Hb
    isplitl [Hbufs Ho]
    · isplitl [Hbufs] <;> iassumption
    isplitr; · iapply ((K (F := F)).ctx_levAts κ); iexact Hctx
    iexact HG
  iintro ⟨Hb, Hbufs, Ho⟩
  rw [show after (fun (c : Dev nD) (b : Ref sig .tc) => val1 m c (Proc.devRef .tc b)) d = fun b => val2 m d (Proc.devRef .tc b) from
    funext (after_val m d)]
  ihave Hheld := (Entails.of_eq (arrs_held d (val2 m d))) $$ Hbufs
  iapply (wp_hlo_within 𝒱 (SparseCore.T d) none Set.univ (op := opPs) (S := arrs) opPs_bufs (V := val2 m d)) $$ [Hb Hheld]
  · isplitl [Hb] <;> iassumption
  iintro ⟨Hb, Hheld⟩
  rw [wp_ret]; imodintro
  iapply (wp_hlo_within 𝒱 (SparseCore.T d) none Set.univ (op := opAa) (S := arrs) opAa_bufs (V := val3 m d)) $$ [Hb Hheld]
  · isplitl [Hb] <;> iassumption
  iintro ⟨Hb, Hheld⟩
  rw [wp_ret]; imodintro
  ihave H := (arrs_before_run m d) $$ Hheld
  icases H with ⟨Hargs, Hops⟩
  iapply ((K (F := F)).wp_run (D (F := F)) 𝒱 (EH := EH) (P := P m) κ d 0) $$ [Ho HR Hops Hargs Hb Hts]
  isplitr; · iexact Hctx
  isplitl [Ho HR]
  · ihave Hst := (Entails.of_eq hR.symm) $$ [Ho HR]
    · isplitl [Ho] <;> iassumption
    iexact Hst
  isplitl [Hops]
  · iapply (operands_deal m d (m (outLoc d))); iexact Hops
  iintro ⟨Hst, Hdn⟩
  ihave H := (results_join m d) $$ Hdn
  imodintro
  isplitl [Hst]; · iexact Hst
  isplitr [Hb Hts]
  · isplitl [Hargs] <;> iassumption
  isplitl [Hb] <;> iassumption

/-! ## The final memory -/

/-- What holds of device `d`'s memory at the end. -/
def fq (s' : Phys nD τ sig (Elt F)) : Prop :=
  (s'.mem.mem (outLoc d) = outOf m d ∧ s'.mem.mem (lgLoc d) = m (lgLoc d) ∧ s'.mem.mem (psLoc d) = m (psLoc d) ∧ s'.mem.mem (aaLoc d) = m (aaLoc d))
    ∧ ∀ (c : Fin ((K (F := F)).nCore 0)) (i : Fin ((K (F := F)).nSub 0)), s'.mem.sem (bcell d (coreOf c) ((K (F := F)).sub 0 i)) = 0

omit [FloatOps F] in
/-- A whole array held is the memory's. -/
theorem read_whole (ℓ : Loc nD τ sig) (f : Buf (Elt F) ℓ) (s' : Phys nD τ sig (Elt F)) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

/-- At the end the memory holds what the claim reads. -/
theorem hfin (s' : Phys nD τ sig (Elt F)) : iprop(FIN m d ∗ SI s') ⊢ (⌜fq m d s'⌝ : sProp 𝕄) := fun x hx =>
  ⟨⟨((sep_mono_left (sep_elim_right.trans sep_elim_left)).trans (read_whole (outLoc d) _ s')) x hx,
      ((sep_mono_left (sep_elim_left.trans sep_elim_left)).trans (read_whole (lgLoc d) _ s')) x hx,
      ((sep_mono_left (sep_elim_left.trans (sep_elim_right.trans sep_elim_left))).trans (read_whole (psLoc d) _ s')) x hx,
      ((sep_mono_left (sep_elim_left.trans (sep_elim_right.trans sep_elim_right))).trans (read_whole (aaLoc d) _ s')) x hx⟩,
    fun c i => ((sep_mono_left (sep_elim_right.trans (sep_elim_right.trans ((SparseCore.ent (bigSep_elim (Finset.mem_univ c))).trans
      (SparseCore.ent (bigSep_elim (Finset.mem_univ i))))))).trans (SparseCore.Cfg.semVal_zero_read _ s')) x hx⟩

/-- The barrier's semaphores end at zero. -/
theorem hA (s' : Phys nD τ sig (Elt F)) (h : ∀ d, fq m d s') (g : GSem nD τ sig) (hg : g ∈ bCells) : s'.mem.sem g = 0 := by
  obtain ⟨⟨d, c, i⟩, -, rfl⟩ := Finset.mem_image.mp hg
  exact (h d).2 ⟨c.val, c.isLt⟩ ⟨i.val, i.isLt⟩

/-- What holds of the whole memory at the end: the result computed, the arguments unchanged, every semaphore at zero. -/
def QC : PUnit × MemSt nD τ sig (Elt F) → Prop := fun r =>
  (∀ c : Dev nD, r.2.mem (outLoc c) = outOf m c ∧ r.2.mem (lgLoc c) = m (lgLoc c) ∧ r.2.mem (psLoc c) = m (psLoc c) ∧ r.2.mem (aaLoc c) = m (aaLoc c))
    ∧ r.2.sem = fun _ => 0

/-- The program's run, over any floating-point operations, from any memory whose positions and tokens are in range. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (hA := hA m) facts v₀
    (fun q hq => match q with | 0 => nomatch hq)
    (fun q _ => match q with | 0 => tileObl m hpre facts)
    (fun q _ => match q with | 0 => vecSplit m)
    m ρ main (fun c => G c) (FIN m) (u₀ (F := F)) (hu₀ m) (fun κ d => hmain m ρ d κ) (fq m) (hfin m) (QC m) (fun _ h hz => ⟨fun c => (h c).1, hz⟩)

end Cert.Proof.Lookup

end
-- ==== Proof.Range.lean ====
/-
  The precondition decoded: where the printed predicate is one, every position is below 4096 and every token below 20.
-/
module

public import proofs.«01_k».proof.Proof.Base
public import proofs.«01_k».proof.Proof.Gen.Pre_in_range
public import Idealize.ShloMosaic.Lib.ReduceAll

@[expose] public section

noncomputable section

namespace Cert.Proof.Lookup

open Cert.KernelIdeal Cert.KernelIdeal.Gen

open Idealize.ShloMosaic Idealize.SL.Sem

/-- Two bits whose conjunction is one are both one. -/
theorem both_one : ∀ {a b : BitVec 1}, IntOp.andi a b = 1#1 → a = 1#1 ∧ b = 1#1 := by decide

/-- A signed word at least zero and less than `n` is below `n` unsigned. -/
theorem toNat_lt {w : BitVec 32} {n : ℕ} (hn : n < 2147483648) (h0 : IntOp.cmpi .sge w 0#32 = 1#1)
    (h1 : IntOp.cmpi .slt w (BitVec.ofNat 32 n) = 1#1) : w.toNat < n := by
  have bit : ∀ {b : Bool}, BitVec.ofBool b = 1#1 → b = true := by decide
  have e0 : BitVec.sle 0#32 w = true := bit h0
  have e1 : BitVec.slt w (BitVec.ofNat 32 n) = true := bit h1
  rw [BitVec.sle_eq_decide, decide_eq_true_eq, BitVec.toInt_eq_toNat_cond, BitVec.toInt_eq_toNat_cond] at e0
  rw [BitVec.slt_eq_decide, decide_eq_true_eq, BitVec.toInt_eq_toNat_cond, BitVec.toInt_eq_toNat_cond, BitVec.toNat_ofNat,
    Nat.mod_eq_of_lt (show n < 2 ^ 32 by omega)] at e1
  rw [if_pos (show 2 * (0#32).toNat < 2 ^ 32 by decide), show (0#32).toNat = 0 from rfl] at e0
  rw [if_pos (show 2 * n < 2 ^ 32 by omega)] at e1
  split at e0 <;> split at e1 <;> omega

variable {F : FTy → Type} [FloatOps F]

/-- Where the printed predicate is one, the positions and the tokens are in range. -/
theorem range_of_pre {X : FVec F S4096x20 .f32} {P A : IVec S16384x32 32} (h : Cert.Pre_in_range.fn (F := F) X P A = fun _ => 1#1) :
    (∀ y, (P y).toNat < 4096) ∧ ∀ y, (A y).toNat < 20 := by
  have e := congrFun h fun a => a.elim0
  haveI : Subsingleton Cert.Pre_in_range.S_.Idx := ⟨fun _ _ => funext fun a => a.elim0⟩
  unfold Cert.Pre_in_range.fn at e
  obtain ⟨e, hA1⟩ := both_one e
  obtain ⟨e, hA0⟩ := both_one e
  obtain ⟨hP0, hP1⟩ := both_one e
  exact ⟨fun y => toNat_lt (by decide) (Host.reduce_andi_all _ _ _ _ _ hP0 y) (Host.reduce_andi_all _ _ _ _ _ hP1 y),
    fun y => toNat_lt (by decide) (Host.reduce_andi_all _ _ _ _ _ hA0 y) (Host.reduce_andi_all _ _ _ _ _ hA1 y)⟩

/-- The precondition gives the kernel's own: the transposed tokens and positions are in range. -/
theorem preOK_of_pre {m : (ℓ : Loc nD τ sig) → Buf (Elt F) ℓ}
    (h : ∀ d : Dev nD, Cert.Pre_in_range.fn (F := F) (m (lgLoc d)) (m (psLoc d)) (m (aaLoc d)) = fun _ => 1#1) : PreOK m :=
  fun d => ⟨fun _ => (range_of_pre (h d)).2 _, fun _ => (range_of_pre (h d)).1 _⟩

end Cert.Proof.Lookup

end
-- ==== Proof.Textbook.lean ====
/-
  The reference read at an index: each of its stages, for tokens and positions in range, at the ideal values.
-/
module

public import proofs.«01_k».proof.Proof.Gen.ReferenceIdeal.Run
public import Idealize.ShloMosaic.Lib.Pointwise
public import Idealize.ShloMosaic.Lib.ReduceAll

@[expose] public section

noncomputable section

namespace Cert.Proof.Textbook

open Cert.ReferenceIdeal Cert.ReferenceIdeal.Gen

open Idealize.ShloMosaic Idealize.SL.Sem

/-! ## The stages -/

section Stages

variable {F : FTy → Type} [FloatOps F]

/-- A position, or its wrap from the end where it is negative. -/
def wrapPos (P : IVec S16384x32 32) : IVec S16384x32x1 32 :=
  broadcastInDim S16384x32x1 ![0, 1] bcast_S16384x32_S16384x32x1_0_1 (select (cmpi .slt P (broadcastInDim S16384x32 ![] bcast_S_S16384x32 (constantI S_ 32 0#32)))
    (addi P (broadcastInDim S16384x32 ![] bcast_S_S16384x32 (constantI S_ 32 4096#32))) P)

/-- The logits' rows at the positions. -/
def rows (X : FVec F S4096x20 .f32) (P : IVec S16384x32 32) : FVec F S16384x32x20 .f32 :=
  select (broadcastInDim S16384x32x20 ![0, 1] bcast_S16384x32_S16384x32x20_0_1
      (Host.reduce IntOp.andi (andi (cmpi .sge (wrapPos P) (broadcastInDim S16384x32x1 ![] bcast_S_S16384x32x1 (constantI S_ 32 0#32)))
        (cmpi .sle (wrapPos P) (broadcastInDim S16384x32x1 ![0, 1, 2] bcast_S1x1x1_S16384x32x1_0_1_2 (broadcastInDim S1x1x1 ![2] bcast_S1_S1x1x1_2 (constantI S1 32 4095#32)))))
        (constantI S_ 1 1#1) reducesTo_S16384x32x1_S16384x32_d2 h_S_))
    (Host.gather gather_S4096x20_S16384x32x1_S16384x32x20_2_0_n_n_0_2_120 X (wrapPos P))
    (broadcastInDim S16384x32x20 ![] bcast_S_S16384x32x20 (constant S_ .f32 0x7FC00000#32))

/-- The rows, each less its greatest entry. -/
def centred (R : FVec F S16384x32x20 .f32) : FVec F S16384x32x20 .f32 :=
  subf R (broadcastInDim S16384x32x20 ![0, 1, 2] bcast_S16384x32x1_S16384x32x20_0_1_2 (broadcastInDim S16384x32x1 ![0, 1] bcast_S16384x32_S16384x32x1_0_1
    (maximumf (broadcastInDim S16384x32 ![] bcast_S_S16384x32 (constant S_ .f32 0xFF800000#32))
      (Host.reduce FloatOps.maximumf R (constant S_ .f32 0xFF800000#32) reducesTo_S16384x32x20_S16384x32_d2 h_S_))))

/-- The rows' log-probabilities. -/
def logProbs (R : FVec F S16384x32x20 .f32) : FVec F S16384x32x20 .f32 :=
  subf (centred R) (broadcastInDim S16384x32x20 ![0, 1, 2] bcast_S16384x32x1_S16384x32x20_0_1_2 (Host.log (broadcastInDim S16384x32x1 ![0, 1] bcast_S16384x32_S16384x32x1_0_1
    (Host.reduceAdd (Host.exp (centred R)) (constant S_ .f32 0x00000000#32) reducesTo_S16384x32x20_S16384x32_d2 h_S_))))

/-- A token, or its wrap from the end where it is negative. -/
def wrapTok (A : IVec S16384x32 32) : IVec S16384x32x1x1 32 :=
  shapeCast _ (select (cmpi .slt (broadcastInDim S16384x32x1 ![0, 1] bcast_S16384x32_S16384x32x1_0_1 A) (broadcastInDim S16384x32x1 ![] bcast_S_S16384x32x1 (constantI S_ 32 0#32)))
    (addi (broadcastInDim S16384x32x1 ![0, 1] bcast_S16384x32_S16384x32x1_0_1 A) (broadcastInDim S16384x32x1 ![] bcast_S_S16384x32x1 (constantI S_ 32 20#32)))
    (broadcastInDim S16384x32x1 ![0, 1] bcast_S16384x32_S16384x32x1_0_1 A)) shapeCasts_S16384x32x1_S16384x32x1x1

/-- The log-probabilities of the tokens. -/
def picked (L : FVec F S16384x32x20 .f32) (A : IVec S16384x32 32) : FVec F S16384x32 .f32 :=
  shapeCast _ (select (Host.reduce IntOp.andi (andi (cmpi .sge (wrapTok A) (broadcastInDim S16384x32x1x1 ![] bcast_S_S16384x32x1x1 (constantI S_ 32 0#32)))
        (cmpi .sle (wrapTok A) (broadcastInDim S16384x32x1x1 ![0, 1, 2, 3] bcast_S1x1x1x1_S16384x32x1x1_0_1_2_3 (broadcastInDim S1x1x1x1 ![3] bcast_S1_S1x1x1x1_3 (constantI S1 32 19#32)))))
        (constantI S_ 1 1#1) reducesTo_S16384x32x1x1_S16384x32x1_d3 h_S_)
      (Host.gather gather_S16384x32x20_S16384x32x1x1_S16384x32x1_n_2_01_01_2_3_111 L (wrapTok A))
      (broadcastInDim S16384x32x1 ![] bcast_S_S16384x32x1 (constant S_ .f32 0x7FC00000#32))) shapeCasts_S16384x32x1_S16384x32

/-- The rows' averages. -/
def averaged (V : FVec F S16384x32 .f32) : FVec F S16384 .f32 :=
  Host.divf (Host.reduceAdd V (constant S_ .f32 0x00000000#32) reducesTo_S16384x32_S16384_d1 h_S_) (broadcastInDim S16384 ![] bcast_S_S16384 (constant S_ .f32 0x42000000#32))

set_option maxRecDepth 8192 in
/-- The reference's result is its stages, one after the other. -/
theorem result_eq (m : (ℓ : Loc nD τ sig) → Buf (Elt F) ℓ) (c : Dev nD) :
    Cert.ReferenceIdeal.Value.res_out0 m c
      = averaged (picked (logProbs (rows (m ((c.tc : Thread nD τ).loc main_arg0)) (m ((c.tc : Thread nD τ).loc main_arg1)))) (m ((c.tc : Thread nD τ).loc main_arg2))) := rfl

end Stages

/-! ## Words in range -/

/-- A word below `n`, not wrapped, is between 0 and `n - 1` as a signed word. -/
theorem in_bounds {w : BitVec 32} {n : ℕ} (hn : n < 2147483648) (h : w.toNat ≤ n) :
    IntOp.andi (IntOp.cmpi .sge w 0#32) (IntOp.cmpi .sle w (BitVec.ofNat 32 n)) = 1#1 := by
  have h0 : IntOp.cmpi .sge w 0#32 = 1#1 := by
    simp only [IntOp.cmpi, BitVec.sle_eq_decide, BitVec.toInt_eq_toNat_cond, BitVec.toNat_ofNat]
    rw [decide_eq_true (by simp; omega)]; rfl
  have h1 : IntOp.cmpi .sle w (BitVec.ofNat 32 n) = 1#1 := by
    simp only [IntOp.cmpi, BitVec.sle_eq_decide, BitVec.toInt_eq_toNat_cond, BitVec.toNat_ofNat]
    rw [decide_eq_true (by rw [Nat.mod_eq_of_lt (by omega)]; split <;> split <;> omega)]; rfl
  rw [h0, h1]; rfl

/-- A word in range is not wrapped. -/
theorem not_wrapped {w c : BitVec 32} (h : w.toNat < 2147483648) : Scalar.select (IntOp.cmpi .slt w 0#32) (IntOp.addi w c) w = w := by
  have h0 : IntOp.cmpi .slt w 0#32 = 0#1 := by
    simp only [IntOp.cmpi, BitVec.slt_eq_decide, BitVec.toInt_eq_toNat_cond, BitVec.toNat_ofNat]
    rw [decide_eq_false (by simp; omega)]; rfl
  rw [h0]; rfl

variable {P A : IVec S16384x32 32}

/-- A position in range is not wrapped. -/
theorem wrapPos_apply (hP : ∀ x, (P x).toNat < 4096) (b : Fin 16384) (k : Fin 32) (z : Fin 1) : wrapPos P (ix3 b k z) = P (ix2 b k) := by
  have e := hP (ix2 b k)
  pointwise [wrapPos]
  exact not_wrapped (by omega)

/-- A token in range is not wrapped. -/
theorem wrapTok_apply (hA : ∀ x, (A x).toNat < 20) (b : Fin 16384) (k : Fin 32) (z z' : Fin 1) : wrapTok A (ix4 b k z z') = A (ix2 b k) := by
  have e := hA (ix2 b k)
  pointwise [wrapTok]
  exact not_wrapped (by omega)

/-! ## The two gathers -/

/-- An index of a rank-3 array is three coordinates. -/
theorem idx3 (x : S16384x32x1.Idx) : ∃ (b : Fin 16384) (k : Fin 32) (z : Fin 1), x = ix3 b k z :=
  ⟨x 0, x 1, x 2, funext fun a => match a with
    | ⟨0, _⟩ => rfl
    | ⟨1, _⟩ => rfl
    | ⟨2, _⟩ => rfl⟩

/-- An index of a rank-4 array is four coordinates. -/
theorem idx4 (x : S16384x32x1x1.Idx) : ∃ (b : Fin 16384) (k : Fin 32) (z z' : Fin 1), x = ix4 b k z z' :=
  ⟨x 0, x 1, x 2, x 3, funext fun a => match a with
    | ⟨0, _⟩ => rfl
    | ⟨1, _⟩ => rfl
    | ⟨2, _⟩ => rfl
    | ⟨3, _⟩ => rfl⟩

/-- The axes of a rank-2 operand. -/
theorem axis2 (c : Fin 2) : c = 0 ∨ c = 1 := by omega

/-- The axes of a rank-3 operand. -/
theorem axis3 (c : Fin 3) : c = 0 ∨ c = 1 ∨ c = 2 := by omega

/-- The mask of the row gather is all ones on indices in range. -/
theorem rowMask {W : IVec S16384x32x1 32} (h : ∀ x, (W x).toNat ≤ 4095) (j : S16384x32.Idx) :
    Host.reduce IntOp.andi (andi (cmpi .sge W (broadcastInDim S16384x32x1 ![] bcast_S_S16384x32x1 (constantI S_ 32 0#32)))
        (cmpi .sle W (broadcastInDim S16384x32x1 ![0, 1, 2] bcast_S1x1x1_S16384x32x1_0_1_2 (broadcastInDim S1x1x1 ![2] bcast_S1_S1x1x1_2 (constantI S1 32 4095#32)))))
        (constantI S_ 1 1#1) reducesTo_S16384x32x1_S16384x32_d2 h_S_ j = 1#1 :=
  Host.reduce_andi_one _ _ _ _ _ rfl fun i => in_bounds (by decide) (h i)

/-- The mask of the entry gather is all ones on indices in range. -/
theorem entryMask {W : IVec S16384x32x1x1 32} (h : ∀ x, (W x).toNat ≤ 19) (j : S16384x32x1.Idx) :
    Host.reduce IntOp.andi (andi (cmpi .sge W (broadcastInDim S16384x32x1x1 ![] bcast_S_S16384x32x1x1 (constantI S_ 32 0#32)))
        (cmpi .sle W (broadcastInDim S16384x32x1x1 ![0, 1, 2, 3] bcast_S1x1x1x1_S16384x32x1x1_0_1_2_3 (broadcastInDim S1x1x1x1 ![3] bcast_S1_S1x1x1x1_3 (constantI S1 32 19#32)))))
        (constantI S_ 1 1#1) reducesTo_S16384x32x1x1_S16384x32x1_d3 h_S_ j = 1#1 :=
  Host.reduce_andi_one _ _ _ _ _ rfl fun i => in_bounds (by decide) (h i)

/-- A word below `N` read signed and clamped below `N` is itself. -/
theorem clamp_eq {w : BitVec 32} {N : ℕ} (hN : N ≤ 2147483648) (h : w.toNat < N) : min w.toInt.toNat (N - 1) = w.toNat := by
  rw [BitVec.toInt_eq_toNat_cond]
  split <;> omega

/-- The row gather at an index: the row its start index names, the same column. -/
theorem rowGather_apply {α : Type} (X : S4096x20.Idx → α) {W : IVec S16384x32x1 32} (b : Fin 16384) (k : Fin 32) (a : Fin 20)
    (h : (W (ix3 b k 0)).toNat < 4096) :
    Host.gather gather_S4096x20_S16384x32x1_S16384x32x20_2_0_n_n_0_2_120 X W (ix3 b k a) = X (ix2 ⟨(W (ix3 b k 0)).toNat, h⟩ a) := by
  refine congrArg X (funext fun c => Fin.ext ?_)
  show gather_S4096x20_S16384x32x1_S16384x32x20_2_0_n_n_0_2_120.start (ix3 b k a) W c
    + gather_S4096x20_S16384x32x1_S16384x32x20_2_0_n_n_0_2_120.batchCoord (ix3 b k a) c
    + gather_S4096x20_S16384x32x1_S16384x32x20_2_0_n_n_0_2_120.offCoord (ix3 b k a) c = _
  rw [GatherDims.batchCoord_eq_zero _ _ _ List.not_mem_nil]
  rcases axis2 c with rfl | rfl
  · have hs : ∀ z, gather_S4096x20_S16384x32x1_S16384x32x20_2_0_n_n_0_2_120.siIdx (ix3 b k a) z = ix3 b k 0 := by
      intro z
      funext e
      refine Fin.ext ?_
      match e with
      | ⟨0, _⟩ => rfl
      | ⟨1, _⟩ => rfl
      | ⟨2, _⟩ => exact Nat.lt_one_iff.mp z.isLt
    rw [GatherDims.offCoord_eq_zero _ _ _ (by decide)]
    unfold GatherDims.start
    rw [dif_pos (by decide), hs]
    exact clamp_eq (by decide) h
  · unfold GatherDims.start
    rw [dif_neg (by decide)]
    unfold GatherDims.offCoord
    rw [dif_pos (by decide)]
    exact Nat.zero_add _

/-- The entry gather at an index: the entry of its own row that its start index names. -/
theorem entryGather_apply {α : Type} (L : S16384x32x20.Idx → α) {W : IVec S16384x32x1x1 32} (b : Fin 16384) (k : Fin 32) (z : Fin 1)
    (h : (W (ix4 b k 0 0)).toNat < 20) :
    Host.gather gather_S16384x32x20_S16384x32x1x1_S16384x32x1_n_2_01_01_2_3_111 L W (ix3 b k z) = L (ix3 b k ⟨(W (ix4 b k 0 0)).toNat, h⟩) := by
  refine congrArg L (funext fun c => Fin.ext ?_)
  show gather_S16384x32x20_S16384x32x1x1_S16384x32x1_n_2_01_01_2_3_111.start (ix3 b k z) W c
    + gather_S16384x32x20_S16384x32x1x1_S16384x32x1_n_2_01_01_2_3_111.batchCoord (ix3 b k z) c
    + gather_S16384x32x20_S16384x32x1x1_S16384x32x1_n_2_01_01_2_3_111.offCoord (ix3 b k z) c = _
  rcases axis3 c with rfl | rfl | rfl
  · rw [GatherDims.start_batching _ _ _ _ (by decide), GatherDims.offCoord_eq_zero _ _ _ (by decide)]
    unfold GatherDims.batchCoord
    rw [dif_pos (by decide)]
    exact Nat.zero_add _
  · rw [GatherDims.start_batching _ _ _ _ (by decide), GatherDims.offCoord_eq_zero _ _ _ (by decide)]
    unfold GatherDims.batchCoord
    rw [dif_pos (by decide)]
    exact Nat.zero_add _
  · have hs : ∀ y, gather_S16384x32x20_S16384x32x1x1_S16384x32x1_n_2_01_01_2_3_111.siIdx (ix3 b k z) y = ix4 b k 0 0 := by
      intro y
      funext e
      refine Fin.ext ?_
      match e with
      | ⟨0, _⟩ => rfl
      | ⟨1, _⟩ => rfl
      | ⟨2, _⟩ => exact Nat.lt_one_iff.mp z.isLt
      | ⟨3, _⟩ => exact Nat.lt_one_iff.mp y.isLt
    rw [GatherDims.batchCoord_eq_zero _ _ _ (by decide), GatherDims.offCoord_eq_zero _ _ _ (by decide)]
    unfold GatherDims.start
    rw [dif_pos (by decide), hs]
    exact clamp_eq (by decide) h

/-- A masked array where the mask is one, the mask spread along the rows. -/
theorem masked3_apply {M : IVec S16384x32 1} (G : FVec Ideal S16384x32x20 .f32) (b : Fin 16384) (k : Fin 32) (a : Fin 20) (h : M (ix2 b k) = 1#1) :
    select (broadcastInDim S16384x32x20 ![0, 1] bcast_S16384x32_S16384x32x20_0_1 M) G
      (broadcastInDim S16384x32x20 ![] bcast_S_S16384x32x20 (constant S_ .f32 0x7FC00000#32)) (ix3 b k a) = G (ix3 b k a) := by
  pointwise [h]

/-- A masked array where the mask is one. -/
theorem masked2_apply {M : IVec S16384x32x1 1} (G : FVec Ideal S16384x32x1 .f32) (b : Fin 16384) (k : Fin 32) (h : M (ix3 b k 0) = 1#1) :
    shapeCast S16384x32 (select M G (broadcastInDim S16384x32x1 ![] bcast_S_S16384x32x1 (constant S_ .f32 0x7FC00000#32))) shapeCasts_S16384x32x1_S16384x32 (ix2 b k)
      = G (ix3 b k 0) := by
  pointwise [h]

/-- The row taken at a position in range is that row. -/
theorem rows_apply (X : FVec Ideal S4096x20 .f32) (hP : ∀ x, (P x).toNat < 4096) (b : Fin 16384) (k : Fin 32) (a : Fin 20) :
    rows X P (ix3 b k a) = X (ix2 ⟨(P (ix2 b k)).toNat, hP _⟩ a) := by
  have hw := wrapPos_apply hP b k 0
  have hm : ∀ x, (wrapPos P x).toNat ≤ 4095 := fun x => by
    obtain ⟨_, _, _, rfl⟩ := idx3 x
    rw [wrapPos_apply hP]; exact Nat.le_of_lt_succ (hP _)
  refine (masked3_apply _ b k a (rowMask hm _)).trans ?_
  refine (rowGather_apply X b k a (Nat.lt_of_le_of_lt (hm _) (by decide))).trans ?_
  simp only [hw]

/-- The entry picked by a token in range is that entry. -/
theorem picked_apply (L : FVec Ideal S16384x32x20 .f32) (hA : ∀ x, (A x).toNat < 20) (b : Fin 16384) (k : Fin 32) :
    picked L A (ix2 b k) = L (ix3 b k ⟨(A (ix2 b k)).toNat, hA _⟩) := by
  have hw := wrapTok_apply hA b k 0 0
  have hm : ∀ x, (wrapTok A x).toNat ≤ 19 := fun x => by
    obtain ⟨_, _, _, _, rfl⟩ := idx4 x
    rw [wrapTok_apply hA]; exact Nat.le_of_lt_succ (hA _)
  refine (masked2_apply _ b k (entryMask hm _)).trans ?_
  refine (entryGather_apply L b k 0 (Nat.lt_of_le_of_lt (hm _) (by decide))).trans ?_
  simp only [hw]

/-! ## The arithmetic -/

/-- A row's greatest entry. -/
theorem greatest_apply (R : FVec Ideal S16384x32x20 .f32) (b : Fin 16384) (k : Fin 32) :
    Host.reduce FloatOps.maximumf R (constant S_ .f32 0xFF800000#32) reducesTo_S16384x32x20_S16384x32_d2 h_S_ (ix2 b k)
      = Finset.univ.fold max (Ideal.ofBits .f32 0xFF800000#32) fun x => R (ix3 b k x) := by
  pointwise
/-- Rows less one number each. -/
theorem less_apply (R : FVec Ideal S16384x32x20 .f32) (M : FVec Ideal S16384x32 .f32) (b : Fin 16384) (k : Fin 32) (a : Fin 20) :
    subf R (broadcastInDim S16384x32x20 ![0, 1, 2] bcast_S16384x32x1_S16384x32x20_0_1_2 (broadcastInDim S16384x32x1 ![0, 1] bcast_S16384x32_S16384x32x1_0_1
      (maximumf (broadcastInDim S16384x32 ![] bcast_S_S16384x32 (constant S_ .f32 0xFF800000#32)) M))) (ix3 b k a)
      = R (ix3 b k a) - max (Ideal.ofBits .f32 0xFF800000#32) (M (ix2 b k)) := by
  pointwise

/-- A centred entry, before its row's greatest entry is read. -/
theorem centred_reduce (R : FVec Ideal S16384x32x20 .f32) (b : Fin 16384) (k : Fin 32) (a : Fin 20) :
    centred R (ix3 b k a) = R (ix3 b k a) - max (Ideal.ofBits .f32 0xFF800000#32) (Host.reduce FloatOps.maximumf R (constant S_ .f32 0xFF800000#32) reducesTo_S16384x32x20_S16384x32_d2 h_S_ (ix2 b k)) :=
  less_apply R _ b k a

/-- A row's entry less the row's greatest. -/
theorem centred_apply (R : FVec Ideal S16384x32x20 .f32) (b : Fin 16384) (k : Fin 32) (a : Fin 20) :
    centred R (ix3 b k a) = R (ix3 b k a) - max (Ideal.ofBits .f32 0xFF800000#32) (Finset.univ.fold max (Ideal.ofBits .f32 0xFF800000#32) fun x => R (ix3 b k x)) :=
  (centred_reduce R b k a).trans (congrArg (fun z => R (ix3 b k a) - max (Ideal.ofBits .f32 0xFF800000#32) z) (greatest_apply R b k))

/-- A log-probability of a row. -/
theorem logProbs_apply (R : FVec Ideal S16384x32x20 .f32) (b : Fin 16384) (k : Fin 32) (a : Fin 20) :
    logProbs R (ix3 b k a) = centred R (ix3 b k a) - Ideal.log (∑ x, Ideal.exp (centred R (ix3 b k x))) := by
  have hs : Host.reduceAdd (Host.exp (centred R)) (constant S_ .f32 0x00000000#32) reducesTo_S16384x32x20_S16384x32_d2 h_S_ (ix2 b k)
      = ∑ x, Ideal.exp (centred R (ix3 b k x)) := by
    generalize centred R = C
    pointwise
  have h : logProbs R (ix3 b k a) = centred R (ix3 b k a)
      - Ideal.log (Host.reduceAdd (Host.exp (centred R)) (constant S_ .f32 0x00000000#32) reducesTo_S16384x32x20_S16384x32_d2 h_S_ (ix2 b k)) := by
    unfold logProbs
    generalize Host.reduceAdd (Host.exp (centred R)) (constant S_ .f32 0x00000000#32) reducesTo_S16384x32x20_S16384x32_d2 h_S_ = G
    pointwise
  rw [h, hs]

/-- A row's average. -/
theorem averaged_apply (V : FVec Ideal S16384x32 .f32) (b : Fin 16384) : averaged V (ix1 b) = Ideal.div (∑ x, V (ix2 b x)) (Ideal.ofBits .f32 0x42000000#32) := by
  pointwise [averaged]

end Cert.Proof.Textbook

end
-- ==== Proof.Agree.lean ====
/-
  The kernel's averages are the reference's, at the ideal values: both read, for batch row `b` and place `k`, the entry of
  the log-softmax of the logits' row `positions[b, k]` that `tokens[b, k]` names, and average the 32 of a row.
-/
module

public import proofs.«01_k».proof.Proof.Base
public import proofs.«01_k».proof.Proof.Range
public import proofs.«01_k».proof.Proof.Textbook

@[expose] public section

noncomputable section

namespace Cert.Proof.Agree

open Idealize.ShloMosaic Idealize.SL.Sem
open Cert.Proof.Lookup Cert.Proof.Textbook

/-! ## The common value -/

/-- A row's entry less the row's greatest. -/
def above (X : FVec Ideal ⟨2, ![4096, 20]⟩ .f32) (p : Fin 4096) (a : Fin 20) : EReal :=
  X (ix2 p a) - Finset.univ.fold max (Ideal.ofBits .f32 0xFF800000#32) fun x => X (ix2 p x)

/-- The log-probability of `a` under row `p`. -/
def logProb (X : FVec Ideal ⟨2, ![4096, 20]⟩ .f32) (p : Fin 4096) (a : Fin 20) : EReal :=
  above X p a - Ideal.log (∑ x, Ideal.exp (above X p x))

/-! ## The constants -/

/-- The divisor's pattern is 32. -/
theorem thirty_two : Ideal.ofBits .f32 0x42000000#32 = ((32 : ℝ) : EReal) := by
  simp [Ideal.ofBits, Ideal.ieee, -EReal.coe_mul]; norm_num

/-- The factor's pattern is 1/32. -/
theorem one_thirty_second : Ideal.ofBits .f32 0x3D000000#32 = ((1 / 32 : ℝ) : EReal) := by
  simp [Ideal.ofBits, Ideal.ieee, -EReal.coe_mul]; norm_num

/-! ## The reference -/

section Reference

open Cert.ReferenceIdeal Cert.ReferenceIdeal.Gen

variable {X : FVec Ideal S4096x20 .f32} {P A : IVec S16384x32 32}

/-- The reference's centred entry: its maximum with the fold's own start changes nothing. -/
theorem centred_rows (hP : ∀ x, (P x).toNat < 4096) (b : Fin 16384) (k : Fin 32) (a : Fin 20) :
    centred (rows X P) (ix3 b k a) = above X ⟨(P (ix2 b k)).toNat, hP _⟩ a := by
  rw [centred_apply, max_eq_right (Finset.le_fold_max _ |>.mpr (Or.inl le_rfl))]
  simp only [rows_apply X hP]
  rfl

/-- The reference's result at a batch row. -/
theorem reference_apply (hP : ∀ x, (P x).toNat < 4096) (hA : ∀ x, (A x).toNat < 20) (b : Fin 16384) :
    averaged (picked (logProbs (rows X P)) A) (ix1 b)
      = (∑ k : Fin 32, logProb X ⟨(P (ix2 b k)).toNat, hP _⟩ ⟨(A (ix2 b k)).toNat, hA _⟩) * ((1 / 32 : ℝ) : EReal) := by
  rw [averaged_apply, thirty_two, Ideal.div_coe (by norm_num)]
  simp only [picked_apply _ hA, logProbs_apply, centred_rows hP]
  rfl

end Reference

/-! ## The kernel -/

section Kernel

open Cert.KernelIdeal Cert.KernelIdeal.Gen

set_option maxRecDepth 16384 in
/-- The table at a word: position `w mod 4096`, token `w / 4096`. -/
theorem table_apply (X : FVec Ideal S4096x20 .f32) (w : Fin 81920) :
    k0_pay1 (F := Ideal) (transpose S20x4096 [1, 0] X transposes_S4096x20_S20x4096_1_0) (ix1 w)
      = logProb X ⟨w.val % 4096, Nat.mod_lt _ (by decide)⟩ ⟨w.val / 4096, Nat.div_lt_of_lt_mul w.isLt⟩ := by
  pointwise [k0_pay1]
  rfl

/-- The table's entry for a token and a position in range. -/
theorem entry_apply (X : FVec Ideal S4096x20 .f32) {a p : BitVec 32} (ha : a.toNat < 20) (hp : p.toNat < 4096) :
    entry (F := Ideal) (k0_pay1 (F := Ideal) (transpose S20x4096 [1, 0] X transposes_S4096x20_S20x4096_1_0)) (slot a p) = logProb X ⟨p.toNat, hp⟩ ⟨a.toNat, ha⟩ := by
  have hw := slot_toNat ha hp
  have hi : (fun i => ⟨(slot a p).toNat % 81920, Nat.lt_of_lt_of_eq (Nat.mod_lt _ (by decide)) (by rw [Subsingleton.elim i 0]; rfl)⟩ : S81920.Idx)
      = ix1 (⟨a.toNat * 4096 + p.toNat, by omega⟩ : Fin 81920) := by
    funext i
    obtain rfl : i = 0 := Subsingleton.elim _ _
    exact Fin.ext ((Nat.mod_eq_of_lt (slot_lt ha hp)).trans hw)
  unfold entry
  rw [hi, table_apply]
  congr 1 <;> refine Fin.ext ?_ <;> dsimp only <;> omega

/-- The running total is a sum. -/
theorem total_eq (T : Vec Ideal S81920 .f32) (a p : ℕ → BitVec 32) (n : ℕ) : total T a p n = ∑ i ∈ Finset.range n, entry T (slot (a i) (p i)) := by
  induction n with
  | zero => exact Ideal.ofBits_zero_f32
  | succ n ih => rw [Finset.sum_range_succ, ← ih]; rfl

/-- The index of a row below 32. -/
theorem at32_eq (k : Fin 32) (b : Fin 16384) : at32 k.val b = ix2 k b := by
  funext i
  match i with
  | ⟨0, _⟩ => exact Fin.ext (Nat.mod_eq_of_lt k.isLt)
  | ⟨1, _⟩ => rfl

variable {m : (ℓ : Loc nD τ sig) → Buf (Elt Ideal) ℓ}

/-- The kernel's result at a batch row. -/
theorem kernel_apply (d : Dev nD) (hP : ∀ x, ((m (psLoc d) : IVec S16384x32 32) x).toNat < 4096) (hA : ∀ x, ((m (aaLoc d) : IVec S16384x32 32) x).toNat < 20) (b : Fin 16384) :
    outOf (F := Ideal) m d (ix1 b)
      = (∑ k : Fin 32, logProb (m (lgLoc d)) ⟨((m (psLoc d) : IVec S16384x32 32) (ix2 b k)).toNat, hP _⟩ ⟨((m (aaLoc d) : IVec S16384x32 32) (ix2 b k)).toNat, hA _⟩) * ((1 / 32 : ℝ) : EReal) := by
  have hp : ∀ k : Fin 32, posOf (F := Ideal) m d (at32 k.val b) = (m (psLoc d) : IVec S16384x32 32) (ix2 b k) := fun k => by
    rw [at32_eq]; pointwise [posOf]
  have ha : ∀ k : Fin 32, tokOf (F := Ideal) m d (at32 k.val b) = (m (aaLoc d) : IVec S16384x32 32) (ix2 b k) := fun k => by
    rw [at32_eq]; pointwise [tokOf]
  show total (tableOf m d) (fun i => tokOf m d (at32 i b)) (fun i => posOf m d (at32 i b)) 32 * Ideal.ofBits .f32 0x3D000000#32 = _
  rw [one_thirty_second, total_eq, Finset.sum_range]
  refine congrArg (· * _) (Finset.sum_congr rfl fun k _ => ?_)
  rw [hp, ha]
  exact entry_apply _ (hA _) (hP _)

end Kernel

/-! ## The two results -/

/-- The reference's result is the kernel's, from memories that agree on the arguments and are in range. -/
theorem result_eq {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} (c : Dev Cert.KernelIdeal.nD)
    (h : Cert.Pre_in_range.fn (F := Ideal) (m (lgLoc c)) (m (psLoc c)) (m (aaLoc c)) = fun _ => 1#1)
    (h0 : m' ((c.tc : Thread Cert.ReferenceIdeal.nD Cert.ReferenceIdeal.τ).loc Cert.ReferenceIdeal.main_arg0) = m (lgLoc c))
    (h1 : m' ((c.tc : Thread Cert.ReferenceIdeal.nD Cert.ReferenceIdeal.τ).loc Cert.ReferenceIdeal.main_arg1) = m (psLoc c))
    (h2 : m' ((c.tc : Thread Cert.ReferenceIdeal.nD Cert.ReferenceIdeal.τ).loc Cert.ReferenceIdeal.main_arg2) = m (aaLoc c)) :
    Cert.ReferenceIdeal.Value.res_main_v7 m' c = outOf (F := Ideal) m c := by
  obtain ⟨hP, hA⟩ := range_of_pre h
  refine (Textbook.result_eq m' c).trans ?_
  rw [h0, h1, h2]
  funext x
  obtain ⟨b, rfl⟩ : ∃ b : Fin 16384, x = ix1 b := ⟨x 0, funext fun a => match a with | ⟨0, _⟩ => rfl⟩
  exact (reference_apply hP hA b).trans (kernel_apply c hP hA b).symm

end Cert.Proof.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_in_range
public import proofs.«01_k».proof.Proof.Gen.ReferenceIdeal.Run
public import proofs.«01_k».proof.Proof.Run
public import proofs.«01_k».proof.Proof.Range
public import proofs.«01_k».proof.Proof.Agree
public import Idealize.ShloMosaic.Adequacy
public import Idealize.ShloMosaic.Init

@[expose] public section

noncomputable section

namespace Cert.Proof

open Idealize.ShloMosaic Idealize.SL.Sem

/-- The two printings of the kernel have one table of bodies. -/
theorem same_bodies : Cert.Kernel.defs₀ (F := Bits) = Cert.KernelIdeal.defs₀ (F := Bits) := by
  funext p ℓ a
  cases p with
  | tc => match ℓ, a with
    | 0, (_, _) => rfl
    | 1, _ => rfl
  | scScalar c => match ℓ, a with
    | 0, _ => rfl
    | 1, _ => rfl
  | scVector c s => match ℓ, a with
    | 0, _ => rfl
    | 1, _ => rfl

/-- The two printings of the kernel are one program. -/
theorem same_defs : Cert.Kernel.defs (F := Bits) = Cert.KernelIdeal.defs (F := Bits) :=
  congrArg (fun D => (Cert.KernelIdeal.sc (F := Bits)).defs (Pipeline.defs (Cert.KernelIdeal.pcfgs (F := Bits)) D)) same_bodies

/-- The kernel as printed runs, keeps its arguments and leaves every semaphore at zero: the idealized program's run, which
    is over any float values, read at the machine's. -/
theorem frame_kernel : Cert.quiescent_Kernel := fun m ρ h => by
  rw [same_defs]
  exact (θ_run Cert.KernelIdeal.defs _ _).mono (fun _ r => ⟨fun c => (r.1 c).2, r.2⟩)
    (Lookup.run_main (F := Bits) m ρ (Lookup.preOK_of_pre h))

/-- The idealized kernel runs, keeps its arguments and leaves every semaphore at zero. -/
theorem frame_ideal : Cert.quiescent_KernelIdeal := fun m ρ h =>
  (θ_run Cert.KernelIdeal.defs _ _).mono (fun _ r => ⟨fun c => (r.1 c).2, r.2⟩)
    (Lookup.run_main (F := Ideal) m ρ (Lookup.preOK_of_pre h))

/-- The reference runs and keeps its arguments; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The same from a memory in range. -/
theorem frame_reference_in_range : Cert.quiescent_ReferenceIdeal_pre_in_range := fun m ρ _ => frame_reference m ρ trivial

/-- At the ideal values the kernel and the reference end with the same averages. -/
theorem same_result : Cert.algebraic_KernelIdeal_ReferenceIdeal := fun m ρ m' ρ' h hm => by
  refine ⟨fun c => Lookup.outOf m c, (θ_run Cert.KernelIdeal.defs _ _).mono (fun _ r => r.1)
    (Lookup.run_main (F := Ideal) m ρ (Lookup.preOK_of_pre h)), ?_⟩
  refine (θ_run Cert.ReferenceIdeal.defs _ _).mono (fun _ r c => ⟨(r c).1.trans ?_, (r c).2⟩) (Cert.ReferenceIdeal.Value.run m' ρ')
  obtain ⟨h0, h1, h2⟩ := hm c
  exact Agree.result_eq c (h c) h0 h1 h2

/-- All the claims, with the side conditions of the programs witnessed. -/
theorem claim : Cert.Claim := ⟨Cert.Kernel.Gen.facts, Cert.KernelIdeal.Gen.facts, Cert.ReferenceIdeal.Gen.facts, Cert.Pre_in_range.Gen.facts,
  frame_kernel, frame_ideal, frame_reference, frame_reference_in_range, trivial, same_result⟩

end Cert.Proof

end
